-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2048x1x1024 : Shape := ⟨3, ![2048, 1, 1024]⟩
abbrev S1x2048 : Shape := ⟨2, ![1, 2048]⟩
abbrev S1024x1024 : Shape := ⟨2, ![1024, 1024]⟩
abbrev S1024 : Shape := ⟨1, ![1024]⟩
abbrev S1024x256 : Shape := ⟨2, ![1024, 256]⟩
abbrev S128x256 : Shape := ⟨2, ![128, 256]⟩
abbrev S256x1024 : Shape := ⟨2, ![256, 1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S2048x1x1024 : S_.BroadcastsInDim S2048x1x1024 (![] : Fin 0 → Fin S2048x1x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x256 : S_.BroadcastsInDim S1024x256 (![] : Fin 0 → Fin S1024x256.rank)

variable [Facts]

def fn_part1 {F : FTy → Type} [FloatOps F] (main_arg11 : FVec F S1024 .f32) (main_arg12 : FVec F S1024x256 .f32) (main_v2 : IVec S2048x1x1024 1) (main_v5 : IVec S1024x1024 1) (main_v8 : IVec S1024 1) (main_v11 : IVec S1024x1024 1) (main_v14 : IVec S1024 1) (main_v17 : IVec S1024 1) : IVec S2048x1x1024 1 × IVec S1024x1024 1 × IVec S1024 1 × IVec S1024x1024 1 × IVec S1024 1 × IVec S1024 1 × IVec S1024 1 × IVec S1024x256 1 :=
  let main_v18 : FVec F S1024 .f32 := Host.absf main_arg11
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x256 .f32 := Host.absf main_arg12
  let main_cst_6 : FVec F S_ .f32 := constant S_ .f32 0x7F800000#32
  let main_v22 : FVec F S1024x256 .f32 := broadcastInDim S1024x256 ![] bcast_S_S1024x256 main_cst_6
  let main_v23 : IVec S1024x256 1 := cmpf .olt main_v21 main_v22
  (main_v2, main_v5, main_v8, main_v11, main_v14, main_v17, main_v20, main_v23)

def fn {F : FTy → Type} [FloatOps F] (main_arg0 : FVec F S2048x1x1024 .f32) (main_arg1 : IVec S1x2048 1) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_arg12 : FVec F S1024x256 .f32) (main_arg13 : FVec F S128x256 .f32) (main_arg14 : FVec F S256x1024 .f32) (main_arg15 : FVec F S1024 .f32) (main_arg16 : FVec F S1024 .f32) (main_arg17 : FVec F S1024x4096 .f32) (main_arg18 : FVec F S4096 .f32) (main_arg19 : FVec F S4096x1024 .f32) (main_arg20 : FVec F S1024 .f32) (main_arg21 : FVec F S1024 .f32) (main_arg22 : FVec F S1024 .f32) : IVec S2048x1x1024 1 × IVec S1024x1024 1 × IVec S1024 1 × IVec S1024x1024 1 × IVec S1024 1 × IVec S1024 1 × IVec S1024 1 × IVec S1024x256 1 :=
  let main_v0 : FVec F S2048x1x1024 .f32 := Host.absf main_arg0
  let main_cst : FVec F S_ .f32 := constant S_ .f32 0x7F800000#32
  let main_v1 : FVec F S2048x1x1024 .f32 := broadcastInDim S2048x1x1024 ![] bcast_S_S2048x1x1024 main_cst
  let main_v2 : IVec S2048x1x1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg10
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg11 main_arg12 main_v2 main_v5 main_v8 main_v11 main_v14 main_v17
-- ==== Kernel.lean ====
abbrev S2048x1x1024 : Shape := ⟨3, ![2048, 1, 1024]⟩
abbrev S1x2048 : Shape := ⟨2, ![1, 2048]⟩
abbrev S1024x1024 : Shape := ⟨2, ![1024, 1024]⟩
abbrev S1024 : Shape := ⟨1, ![1024]⟩
abbrev S1024x256 : Shape := ⟨2, ![1024, 256]⟩
abbrev S128x256 : Shape := ⟨2, ![128, 256]⟩
abbrev S256x1024 : Shape := ⟨2, ![256, 1024]⟩
abbrev S1024x4096 : Shape := ⟨2, ![1024, 4096]⟩
abbrev S4096 : Shape := ⟨1, ![4096]⟩
abbrev S4096x1024 : Shape := ⟨2, ![4096, 1024]⟩
abbrev S2048x1024 : Shape := ⟨2, ![2048, 1024]⟩
abbrev S1x1024 : Shape := ⟨2, ![1, 1024]⟩
abbrev S2048x3072 : Shape := ⟨2, ![2048, 3072]⟩
abbrev S256x3072 : Shape := ⟨2, ![256, 3072]⟩
abbrev S16x2048x64 : Shape := ⟨3, ![16, 2048, 64]⟩
abbrev S2048x64 : Shape := ⟨2, ![2048, 64]⟩
abbrev S1x2048x64 : Shape := ⟨3, ![1, 2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S2048x1 : Shape := ⟨2, ![2048, 1]⟩
abbrev S1x1 : Shape := ⟨2, ![1, 1]⟩
abbrev S256x256 : Shape := ⟨2, ![256, 256]⟩
abbrev S256x128 : Shape := ⟨2, ![256, 128]⟩
abbrev S128 : Shape := ⟨1, ![128]⟩
abbrev S1x128 : Shape := ⟨2, ![1, 128]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩
abbrev S1x4096 : Shape := ⟨2, ![1, 4096]⟩

abbrev nBuf : Space → Nat
  | .hbm => 59
  | .vmem => 47
  | .smem => 0
  | _ => 0

abbrev bufTy : (tb : Table) → Fin (tcTables nBuf tb) → BufTy
  | .hbm, ⟨0, _⟩ => ⟨S2048x1x1024, .f32⟩
  | .hbm, ⟨1, _⟩ => ⟨S1x2048, .i1⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S128x256, .f32⟩
  | .hbm, ⟨14, _⟩ => ⟨S256x1024, .f32⟩
  | .hbm, ⟨15, _⟩ => ⟨S1024, .f32⟩
  | .hbm, ⟨16, _⟩ => ⟨S1024, .f32⟩
  | .hbm, ⟨17, _⟩ => ⟨S1024x4096, .f32⟩
  | .hbm, ⟨18, _⟩ => ⟨S4096, .f32⟩
  | .hbm, ⟨19, _⟩ => ⟨S4096x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S2048x1024, .f32⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S2048x3072, .bf16⟩
  | .hbm, ⟨31, _⟩ => ⟨S2048x1024, .bf16⟩
  | .hbm, ⟨32, _⟩ => ⟨S2048x1, .i1⟩
  | .hbm, ⟨33, _⟩ => ⟨S2048x1, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S256x1024, .bf16⟩
  | .hbm, ⟨39, _⟩ => ⟨S1x1024, .f32⟩
  | .hbm, ⟨40, _⟩ => ⟨S1x1024, .f32⟩
  | .hbm, ⟨41, _⟩ => ⟨S2048x1024, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1024x4096, .bf16⟩
  | .hbm, ⟨52, _⟩ => ⟨S1x4096, .f32⟩
  | .hbm, ⟨53, _⟩ => ⟨S4096x1024, .bf16⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S2048x1024, .f32⟩
  | .hbm, ⟨58, _⟩ => ⟨S2048x1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x3072, .bf16⟩
  | .local _ .vmem, ⟨9, _⟩ => ⟨S256x3072, .bf16⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .vmem, ⟨14, _⟩ => ⟨S256x1024, .bf16⟩
  | .local _ .vmem, ⟨15, _⟩ => ⟨S256x1024, .bf16⟩
  | .local _ .vmem, ⟨16, _⟩ => ⟨S16x2048x64, .bf16⟩
  | .local _ .vmem, ⟨17, _⟩ => ⟨S16x2048x64, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x256, .f32⟩
  | .local _ .vmem, ⟨27, _⟩ => ⟨S128x256, .f32⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | .local _ .vmem, ⟨31, _⟩ => ⟨S256x1, .f32⟩
  | .local _ .vmem, ⟨32, _⟩ => ⟨S256x1, .f32⟩
  | .local _ .vmem, ⟨33, _⟩ => ⟨S256x1024, .f32⟩
  | .local _ .vmem, ⟨34, _⟩ => ⟨S256x1024, .f32⟩
  | .local _ .vmem, ⟨35, _⟩ => ⟨S1x1, .f32⟩
  | .local _ .vmem, ⟨36, _⟩ => ⟨S1x1, .f32⟩
  | .local _ .vmem, ⟨37, _⟩ => ⟨S256x1024, .f32⟩
  | .local _ .vmem, ⟨38, _⟩ => ⟨S256x1024, .f32⟩
  | .local _ .vmem, ⟨39, _⟩ => ⟨S1024x4096, .bf16⟩
  | .local _ .vmem, ⟨40, _⟩ => ⟨S1x4096, .f32⟩
  | .local _ .vmem, ⟨41, _⟩ => ⟨S4096x1024, .bf16⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S256x1024, .f32⟩
  | .local _ .vmem, ⟨46, _⟩ => ⟨S256x1024, .f32⟩
  | _, _ => ⟨S2048x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v18_2 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg11_1 : Ref sig .tc := ⟨.vmem, 32, rfl⟩
abbrev cc2_stg12_0 : Ref sig .tc := ⟨.vmem, 33, rfl⟩
abbrev cc2_stg12_1 : Ref sig .tc := ⟨.vmem, 34, rfl⟩
abbrev cc2_stg13_0 : Ref sig .tc := ⟨.vmem, 35, rfl⟩
abbrev cc2_stg14_0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem11_1 : DmaSem sig := 30
abbrev cc2_sem12_0 : DmaSem sig := 31
abbrev cc2_sem12_1 : DmaSem sig := 32
abbrev cc2_sem13_0 : DmaSem sig := 33
abbrev cc2_sem14_0 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== ReferenceIdeal.lean ====
abbrev S2048x1x1024 : Shape := ⟨3, ![2048, 1, 1024]⟩
abbrev S1x2048 : Shape := ⟨2, ![1, 2048]⟩
abbrev S1024x1024 : Shape := ⟨2, ![1024, 1024]⟩
abbrev S1024 : Shape := ⟨1, ![1024]⟩
abbrev S1024x256 : Shape := ⟨2, ![1024, 256]⟩
abbrev S128x256 : Shape := ⟨2, ![128, 256]⟩
abbrev S256x1024 : Shape := ⟨2, ![256, 1024]⟩
abbrev S1024x4096 : Shape := ⟨2, ![1024, 4096]⟩
abbrev S4096 : Shape := ⟨1, ![4096]⟩
abbrev S4096x1024 : Shape := ⟨2, ![4096, 1024]⟩
abbrev S1x1x1024 : Shape := ⟨3, ![1, 1, 1024]⟩
abbrev S_ : Shape := ⟨0, ![]⟩
abbrev S2048x16x64 : Shape := ⟨3, ![2048, 16, 64]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S16x2048 : Shape := ⟨2, ![16, 2048]⟩
abbrev S16x2048x1 : Shape := ⟨3, ![16, 2048, 1]⟩
abbrev S2048x1 : Shape := ⟨2, ![2048, 1]⟩
abbrev S2048x1x1 : Shape := ⟨3, ![2048, 1, 1]⟩
abbrev S2048x1x256 : Shape := ⟨3, ![2048, 1, 256]⟩
abbrev S1x2048x256 : Shape := ⟨3, ![1, 2048, 256]⟩
abbrev S2048x256 : Shape := ⟨2, ![2048, 256]⟩
abbrev S2048 : Shape := ⟨1, ![2048]⟩
abbrev S256x128 : Shape := ⟨2, ![256, 128]⟩
abbrev S2048x128 : Shape := ⟨2, ![2048, 128]⟩
abbrev S128 : Shape := ⟨1, ![128]⟩
abbrev S1x128 : Shape := ⟨2, ![1, 128]⟩
abbrev S1x2048x1024 : Shape := ⟨3, ![1, 2048, 1024]⟩
abbrev S2048x1x4096 : Shape := ⟨3, ![2048, 1, 4096]⟩
abbrev S1x1x4096 : Shape := ⟨3, ![1, 1, 4096]⟩

abbrev nBuf : Space → Nat
  | .hbm => 278
  | .vmem => 0
  | .smem => 0
  | _ => 0

abbrev hbmTy0_0 (i : Nat) : BufTy := match i % 128 with
  | 0 => ⟨S2048x1x1024, .f32⟩
  | 1 => ⟨S1x2048, .i1⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S1024, .f32⟩
  | 11 => ⟨S1024, .f32⟩
  | 12 => ⟨S1024x256, .f32⟩
  | 13 => ⟨S128x256, .f32⟩
  | 14 => ⟨S256x1024, .f32⟩
  | 15 => ⟨S1024, .f32⟩
  | 16 => ⟨S1024, .f32⟩
  | 17 => ⟨S1024x4096, .f32⟩
  | 18 => ⟨S4096, .f32⟩
  | 19 => ⟨S4096x1024, .f32⟩
  | 20 => ⟨S1024, .f32⟩
  | 21 => ⟨S1024, .f32⟩
  | 22 => ⟨S1024, .f32⟩
  | 23 => ⟨S2048x1x1024, .f32⟩
  | 24 => ⟨S1x1x1024, .f32⟩
  | 25 => ⟨S2048x1x1024, .f32⟩
  | 26 => ⟨S2048x1x1024, .f32⟩
  | 27 => ⟨S_, .f32⟩
  | 28 => ⟨S2048x1x1024, .f32⟩
  | 29 => ⟨S2048x1x1024, .f32⟩
  | 30 => ⟨S2048x1x1024, .f32⟩
  | 31 => ⟨S1x1x1024, .f32⟩
  | 32 => ⟨S2048x1x1024, .f32⟩
  | 33 => ⟨S2048x1x1024, .f32⟩
  | 34 => ⟨S2048x1x1024, .f32⟩
  | 35 => ⟨S1x1x1024, .f32⟩
  | 36 => ⟨S2048x1x1024, .f32⟩
  | 37 => ⟨S2048x1x1024, .f32⟩
  | 38 => ⟨S2048x16x64, .f32⟩
  | 39 => ⟨S16x2048x64, .f32⟩
  | 40 => ⟨S2048x16x64, .f32⟩
  | 41 => ⟨S16x2048x64, .f32⟩
  | 42 => ⟨S2048x16x64, .f32⟩
  | 43 => ⟨S16x2048x64, .f32⟩
  | 44 => ⟨S16x64x2048, .f32⟩
  | 45 => ⟨S16x2048x2048, .f32⟩
  | 46 => ⟨S_, .f32⟩
  | 47 => ⟨S16x2048, .f32⟩
  | 48 => ⟨S_, .f32⟩
  | 49 => ⟨S16x2048, .f32⟩
  | 50 => ⟨S16x2048, .f32⟩
  | 51 => ⟨S16x2048x1, .f32⟩
  | 52 => ⟨S16x2048x2048, .f32⟩
  | 53 => ⟨S16x2048x2048, .f32⟩
  | 54 => ⟨S16x2048x2048, .f32⟩
  | 55 => ⟨S_, .f32⟩
  | 56 => ⟨S16x2048, .f32⟩
  | 57 => ⟨S16x2048x1, .f32⟩
  | 58 => ⟨S16x2048x2048, .f32⟩
  | 59 => ⟨S16x2048x2048, .f32⟩
  | 60 => ⟨S16x2048x64, .f32⟩
  | 61 => ⟨S2048x16x64, .f32⟩
  | 62 => ⟨S2048x1x1024, .f32⟩
  | 63 => ⟨S2048x1x1024, .f32⟩
  | 64 => ⟨S1x1x1024, .f32⟩
  | 65 => ⟨S2048x1x1024, .f32⟩
  | 66 => ⟨S2048x1x1024, .f32⟩
  | 67 => ⟨S2048x1x1024, .f32⟩
  | 68 => ⟨S_, .f32⟩
  | 69 => ⟨S2048x1, .f32⟩
  | 70 => ⟨S2048x1x1, .f32⟩
  | 71 => ⟨S_, .f32⟩
  | 72 => ⟨S2048x1x1, .f32⟩
  | 73 => ⟨S2048x1x1, .f32⟩
  | 74 => ⟨S_, .i32⟩
  | 75 => ⟨S_, .f32⟩
  | 76 => ⟨S2048x1, .f32⟩
  | 77 => ⟨S2048x1x1, .f32⟩
  | 78 => ⟨S_, .f32⟩
  | 79 => ⟨S2048x1x1, .f32⟩
  | 80 => ⟨S2048x1x1, .f32⟩
  | 81 => ⟨S2048x1x1024, .f32⟩
  | 82 => ⟨S2048x1x1024, .f32⟩
  | 83 => ⟨S2048x1x1024, .f32⟩
  | 84 => ⟨S_, .f32⟩
  | 85 => ⟨S_, .f32⟩
  | 86 => ⟨S_, .f32⟩
  | 87 => ⟨S_, .f32⟩
  | 88 => ⟨S2048x1, .f32⟩
  | 89 => ⟨S2048x1x1, .f32⟩
  | 90 => ⟨S2048x1x1, .f32⟩
  | 91 => ⟨S2048x1x1, .f32⟩
  | 92 => ⟨S_, .f32⟩
  | 93 => ⟨S_, .i1⟩
  | 94 => ⟨S_, .f32⟩
  | 95 => ⟨S_, .f32⟩
  | 96 => ⟨S2048x1x1, .f32⟩
  | 97 => ⟨S2048x1x1, .f32⟩
  | 98 => ⟨S2048x1x1024, .f32⟩
  | 99 => ⟨S2048x1x1024, .f32⟩
  | 100 => ⟨S_, .f32⟩
  | 101 => ⟨S2048x1x1, .f32⟩
  | 102 => ⟨S2048x1x1, .f32⟩
  | 103 => ⟨S2048x1x1, .f32⟩
  | 104 => ⟨S2048x1x1024, .f32⟩
  | 105 => ⟨S2048x1x1024, .f32⟩
  | 106 => ⟨S1x1x1024, .f32⟩
  | 107 => ⟨S2048x1x1024, .f32⟩
  | 108 => ⟨S2048x1x1024, .f32⟩
  | 109 => ⟨S1x1x1024, .f32⟩
  | 110 => ⟨S2048x1x1024, .f32⟩
  | 111 => ⟨S2048x1x1024, .f32⟩
  | 112 => ⟨S2048x1x256, .f32⟩
  | 113 => ⟨S1x2048x256, .f32⟩
  | 114 => ⟨S2048x256, .f32⟩
  | 115 => ⟨S2048x256, .f32⟩
  | 116 => ⟨S_, .f32⟩
  | 117 => ⟨S2048, .f32⟩
  | 118 => ⟨S2048x1, .f32⟩
  | 119 => ⟨S_, .f32⟩
  | 120 => ⟨S2048x256, .f32⟩
  | 121 => ⟨S2048x256, .f32⟩
  | 122 => ⟨S256x128, .f32⟩
  | 123 => ⟨S2048x128, .f32⟩
  | 124 => ⟨S2048x128, .f32⟩
  | 125 => ⟨S2048x128, .f32⟩
  | 126 => ⟨S128x256, .f32⟩
  | 127 => ⟨S_, .f32⟩
  | _ => ⟨S2048x1x1024, .f32⟩

abbrev hbmTy0_1 (i : Nat) : BufTy := match i % 128 with
  | 0 => ⟨S128, .f32⟩
  | 1 => ⟨S1x128, .f32⟩
  | 2 => ⟨S2048x128, .f32⟩
  | 3 => ⟨S2048x128, .f32⟩
  | 4 => ⟨S2048x128, .i32⟩
  | 5 => ⟨S_, .f32⟩
  | 6 => ⟨S_, .i32⟩
  | 7 => ⟨S2048, .f32⟩
  | 8 => ⟨S2048, .i32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S2048x256, .f32⟩
  | 18 => ⟨S2048x256, .f32⟩
  | 19 => ⟨S2048x256, .f32⟩
  | 20 => ⟨S2048, .i1⟩
  | 21 => ⟨S2048, .f32⟩
  | 22 => ⟨S2048x256, .f32⟩
  | 23 => ⟨S2048x256, .f32⟩
  | 24 => ⟨S_, .f32⟩
  | 25 => ⟨S2048, .f32⟩
  | 26 => ⟨S_, .f32⟩
  | 27 => ⟨S2048, .f32⟩
  | 28 => ⟨S2048, .f32⟩
  | 29 => ⟨S2048, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S2048x1, .f32⟩
  | 40 => ⟨S2048x256, .f32⟩
  | 41 => ⟨S2048x256, .f32⟩
  | 42 => ⟨S1x2048x256, .f32⟩
  | 43 => ⟨S1x2048x1024, .f32⟩
  | 44 => ⟨S2048x1x1024, .f32⟩
  | 45 => ⟨S2048x1x1024, .f32⟩
  | 46 => ⟨S_, .f32⟩
  | 47 => ⟨S2048x1, .f32⟩
  | 48 => ⟨S2048x1x1, .f32⟩
  | 49 => ⟨S_, .f32⟩
  | 50 => ⟨S2048x1x1, .f32⟩
  | 51 => ⟨S2048x1x1, .f32⟩
  | 52 => ⟨S_, .i32⟩
  | 53 => ⟨S_, .f32⟩
  | 54 => ⟨S2048x1, .f32⟩
  | 55 => ⟨S2048x1x1, .f32⟩
  | 56 => ⟨S_, .f32⟩
  | 57 => ⟨S2048x1x1, .f32⟩
  | 58 => ⟨S2048x1x1, .f32⟩
  | 59 => ⟨S2048x1x1024, .f32⟩
  | 60 => ⟨S2048x1x1024, .f32⟩
  | 61 => ⟨S2048x1x1024, .f32⟩
  | 62 => ⟨S_, .f32⟩
  | 63 => ⟨S_, .f32⟩
  | 64 => ⟨S_, .f32⟩
  | 65 => ⟨S_, .f32⟩
  | 66 => ⟨S2048x1, .f32⟩
  | 67 => ⟨S2048x1x1, .f32⟩
  | 68 => ⟨S2048x1x1, .f32⟩
  | 69 => ⟨S2048x1x1, .f32⟩
  | 70 => ⟨S_, .f32⟩
  | 71 => ⟨S_, .i1⟩
  | 72 => ⟨S_, .f32⟩
  | 73 => ⟨S_, .f32⟩
  | 74 => ⟨S2048x1x1, .f32⟩
  | 75 => ⟨S2048x1x1, .f32⟩
  | 76 => ⟨S2048x1x1024, .f32⟩
  | 77 => ⟨S2048x1x1024, .f32⟩
  | 78 => ⟨S_, .f32⟩
  | 79 => ⟨S2048x1x1, .f32⟩
  | 80 => ⟨S2048x1x1, .f32⟩
  | 81 => ⟨S2048x1x1, .f32⟩
  | 82 => ⟨S2048x1x1024, .f32⟩
  | 83 => ⟨S2048x1x1024, .f32⟩
  | 84 => ⟨S1x1x1024, .f32⟩
  | 85 => ⟨S2048x1x1024, .f32⟩
  | 86 => ⟨S2048x1x1024, .f32⟩
  | 87 => ⟨S1x1x1024, .f32⟩
  | 88 => ⟨S2048x1x1024, .f32⟩
  | 89 => ⟨S2048x1x1024, .f32⟩
  | 90 => ⟨S2048x1, .i1⟩
  | 91 => ⟨S2048x1x1, .i1⟩
  | 92 => ⟨S2048x1x1024, .i1⟩
  | 93 => ⟨S2048x1x1024, .f32⟩
  | 94 => ⟨S2048x1x4096, .f32⟩
  | 95 => ⟨S1x1x4096, .f32⟩
  | 96 => ⟨S2048x1x4096, .f32⟩
  | 97 => ⟨S2048x1x4096, .f32⟩
  | 98 => ⟨S_, .f32⟩
  | 99 => ⟨S2048x1x4096, .f32⟩
  | 100 => ⟨S2048x1x4096, .f32⟩
  | 101 => ⟨S2048x1x1024, .f32⟩
  | 102 => ⟨S2048x1x1024, .f32⟩
  | 103 => ⟨S1x1x1024, .f32⟩
  | 104 => ⟨S2048x1x1024, .f32⟩
  | 105 => ⟨S2048x1x1024, .f32⟩
  | 106 => ⟨S_, .f32⟩
  | 107 => ⟨S2048x1, .f32⟩
  | 108 => ⟨S2048x1x1, .f32⟩
  | 109 => ⟨S_, .f32⟩
  | 110 => ⟨S2048x1x1, .f32⟩
  | 111 => ⟨S2048x1x1, .f32⟩
  | 112 => ⟨S_, .i32⟩
  | 113 => ⟨S_, .f32⟩
  | 114 => ⟨S2048x1, .f32⟩
  | 115 => ⟨S2048x1x1, .f32⟩
  | 116 => ⟨S_, .f32⟩
  | 117 => ⟨S2048x1x1, .f32⟩
  | 118 => ⟨S2048x1x1, .f32⟩
  | 119 => ⟨S2048x1x1024, .f32⟩
  | 120 => ⟨S2048x1x1024, .f32⟩
  | 121 => ⟨S2048x1x1024, .f32⟩
  | 122 => ⟨S_, .f32⟩
  | 123 => ⟨S_, .f32⟩
  | 124 => ⟨S_, .f32⟩
  | 125 => ⟨S_, .f32⟩
  | 126 => ⟨S2048x1, .f32⟩
  | 127 => ⟨S2048x1x1, .f32⟩
  | _ => ⟨S2048x1x1024, .f32⟩

abbrev hbmTy0_2 (i : Nat) : BufTy := match i % 128 with
  | 0 => ⟨S2048x1x1, .f32⟩
  | 1 => ⟨S2048x1x1, .f32⟩
  | 2 => ⟨S_, .f32⟩
  | 3 => ⟨S_, .i1⟩
  | 4 => ⟨S_, .f32⟩
  | 5 => ⟨S_, .f32⟩
  | 6 => ⟨S2048x1x1, .f32⟩
  | 7 => ⟨S2048x1x1, .f32⟩
  | 8 => ⟨S2048x1x1024, .f32⟩
  | 9 => ⟨S2048x1x1024, .f32⟩
  | 10 => ⟨S_, .f32⟩
  | 11 => ⟨S2048x1x1, .f32⟩
  | 12 => ⟨S2048x1x1, .f32⟩
  | 13 => ⟨S2048x1x1, .f32⟩
  | 14 => ⟨S2048x1x1024, .f32⟩
  | 15 => ⟨S2048x1x1024, .f32⟩
  | 16 => ⟨S1x1x1024, .f32⟩
  | 17 => ⟨S2048x1x1024, .f32⟩
  | 18 => ⟨S2048x1x1024, .f32⟩
  | 19 => ⟨S1x1x1024, .f32⟩
  | 20 => ⟨S2048x1x1024, .f32⟩
  | 21 => ⟨S2048x1x1024, .f32⟩
  | _ => ⟨S2048x1x1024, .f32⟩

abbrev hbmTy (i : Nat) : BufTy := match i / 128 with
  | 0 => hbmTy0_0 i
  | 1 => hbmTy0_1 i
  | 2 => hbmTy0_2 i
  | _ => ⟨S2048x1x1024, .f32⟩

abbrev bufTy : (tb : Table) → Fin (tcTables nBuf tb) → BufTy
  | .hbm, ⟨i, _⟩ => hbmTy i
  | _, _ => ⟨S2048x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_c : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_cst_3 : Ref sig .tc := ⟨.hbm, 92, rfl⟩
abbrev main_call0_v13 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_5 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_6 : Ref sig .tc := ⟨.hbm, 116, rfl⟩
abbrev main_v63 : Ref sig .tc := ⟨.hbm, 117, rfl⟩
abbrev main_v64 : Ref sig .tc := ⟨.hbm, 118, rfl⟩
abbrev main_cst_7 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_8 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_call1_v0 : Ref sig .tc := ⟨.hbm, 132, rfl⟩
abbrev main_call1_cst : Ref sig .tc := ⟨.hbm, 133, rfl⟩
abbrev main_call1_c : Ref sig .tc := ⟨.hbm, 134, rfl⟩
abbrev main_call1_v1_0 : Ref sig .tc := ⟨.hbm, 135, rfl⟩
abbrev main_v76 : Ref sig .tc := ⟨.hbm, 136, rfl⟩
abbrev main_c_9 : Ref sig .tc := ⟨.hbm, 137, rfl⟩
abbrev main_v77 : Ref sig .tc := ⟨.hbm, 138, rfl⟩
abbrev main_v78 : Ref sig .tc := ⟨.hbm, 139, rfl⟩
abbrev main_c_10 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_11 : Ref sig .tc := ⟨.hbm, 152, rfl⟩
abbrev main_v90 : Ref sig .tc := ⟨.hbm, 153, rfl⟩
abbrev main_cst_12 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_13 : Ref sig .tc := ⟨.hbm, 158, rfl⟩
abbrev main_v94 : Ref sig .tc := ⟨.hbm, 159, rfl⟩
abbrev main_cst_14 : Ref sig .tc := ⟨.hbm, 160, rfl⟩
abbrev main_v95 : Ref sig .tc := ⟨.hbm, 161, rfl⟩
abbrev main_cst_15 : Ref sig .tc := ⟨.hbm, 162, rfl⟩
abbrev main_v96 : Ref sig .tc := ⟨.hbm, 163, rfl⟩
abbrev main_cst_16 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_17 : Ref sig .tc := ⟨.hbm, 174, rfl⟩
abbrev main_v106 : Ref sig .tc := ⟨.hbm, 175, rfl⟩
abbrev main_v107 : Ref sig .tc := ⟨.hbm, 176, rfl⟩
abbrev main_cst_18 : Ref sig .tc := ⟨.hbm, 177, rfl⟩
abbrev main_v108 : Ref sig .tc := ⟨.hbm, 178, rfl⟩
abbrev main_v109 : Ref sig .tc := ⟨.hbm, 179, rfl⟩
abbrev main_c_19 : Ref sig .tc := ⟨.hbm, 180, rfl⟩
abbrev main_call2_cst : Ref sig .tc := ⟨.hbm, 181, rfl⟩
abbrev main_call2_v0 : Ref sig .tc := ⟨.hbm, 182, rfl⟩
abbrev main_call2_v1 : Ref sig .tc := ⟨.hbm, 183, rfl⟩
abbrev main_call2_cst_0 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_cst_1 : Ref sig .tc := ⟨.hbm, 191, rfl⟩
abbrev main_call2_v8 : Ref sig .tc := ⟨.hbm, 192, rfl⟩
abbrev main_call2_cst_2 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_v12 : Ref sig .tc := ⟨.hbm, 197, rfl⟩
abbrev main_call2_cst_3 : Ref sig .tc := ⟨.hbm, 198, rfl⟩
abbrev main_call2_v13 : Ref sig .tc := ⟨.hbm, 199, rfl⟩
abbrev main_call2_cst_4 : Ref sig .tc := ⟨.hbm, 200, rfl⟩
abbrev main_call2_call0_v0 : Ref sig .tc := ⟨.hbm, 201, rfl⟩
abbrev main_call2_call0_v1 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_cst_20 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_call3_v0 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_call4_cst : Ref sig .tc := ⟨.hbm, 226, rfl⟩
abbrev main_call4_v0 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_cst_21 : Ref sig .tc := ⟨.hbm, 234, rfl⟩
abbrev main_v137 : Ref sig .tc := ⟨.hbm, 235, rfl⟩
abbrev main_v138 : Ref sig .tc := ⟨.hbm, 236, rfl⟩
abbrev main_cst_22 : Ref sig .tc := ⟨.hbm, 237, rfl⟩
abbrev main_v139 : Ref sig .tc := ⟨.hbm, 238, rfl⟩
abbrev main_v140 : Ref sig .tc := ⟨.hbm, 239, rfl⟩
abbrev main_c_23 : Ref sig .tc := ⟨.hbm, 240, rfl⟩
abbrev main_call5_cst : Ref sig .tc := ⟨.hbm, 241, rfl⟩
abbrev main_call5_v0 : Ref sig .tc := ⟨.hbm, 242, rfl⟩
abbrev main_call5_v1 : Ref sig .tc := ⟨.hbm, 243, rfl⟩
abbrev main_call5_cst_0 : Ref sig .tc := ⟨.hbm, 244, rfl⟩
abbrev main_call5_v2 : Ref sig .tc := ⟨.hbm, 245, rfl⟩
abbrev main_call5_v3 : Ref sig .tc := ⟨.hbm, 246, rfl⟩
abbrev main_call5_v4 : Ref sig .tc := ⟨.hbm, 247, rfl⟩
abbrev main_call5_v5 : Ref sig .tc := ⟨.hbm, 248, rfl⟩
abbrev main_call5_v6 : Ref sig .tc := ⟨.hbm, 249, rfl⟩
abbrev main_call5_v7 : Ref sig .tc := ⟨.hbm, 250, rfl⟩
abbrev main_call5_cst_1 : Ref sig .tc := ⟨.hbm, 251, rfl⟩
abbrev main_call5_v8 : Ref sig .tc := ⟨.hbm, 252, rfl⟩
abbrev main_call5_cst_2 : Ref sig .tc := ⟨.hbm, 253, rfl⟩
abbrev main_call5_v9 : Ref sig .tc := ⟨.hbm, 254, rfl⟩
abbrev main_call5_v10 : Ref sig .tc := ⟨.hbm, 255, rfl⟩
abbrev main_call5_v11 : Ref sig .tc := ⟨.hbm, 256, rfl⟩
abbrev main_call5_v12 : Ref sig .tc := ⟨.hbm, 257, rfl⟩
abbrev main_call5_cst_3 : Ref sig .tc := ⟨.hbm, 258, rfl⟩
abbrev main_call5_v13 : Ref sig .tc := ⟨.hbm, 259, rfl⟩
abbrev main_call5_cst_4 : Ref sig .tc := ⟨.hbm, 260, rfl⟩
abbrev main_call5_call0_v0 : Ref sig .tc := ⟨.hbm, 261, rfl⟩
abbrev main_call5_call0_v1 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_cst_24 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩

abbrev nD : Nat := 1
abbrev τ : Topo := Topo.v7x

variable {F : FTy → Type} [FloatOps F]
-- ==== Proof.Kernel.Region0.lean ====
/- Launch 0 (queries, keys and values): what its body leaves at each grid point, and that it runs, from any contents at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Launch 0: queries, keys and values -/

/-! ## The windows' blocks -/

/-- Window `w`'s block at point `t`, read off its array. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether it was fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, whether it was fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, whether it was fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, whether it was fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, whether it was fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, whether it was fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, whether it was fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S256x3072 := Rect.unit (s := S256x3072) ![0, 0] S256x1024.size inb_S256x3072_S256x1024_0_0
abbrev r0_4 : Rect S256x3072 := Rect.unit (s := S256x3072) ![0, 1024] S256x1024.size inb_S256x3072_S256x1024_0_1024
abbrev r0_5 : Rect S256x3072 := Rect.unit (s := S256x3072) ![0, 2048] S256x1024.size inb_S256x3072_S256x1024_0_2048

/-! ## What the body leaves in each output window's buffer -/

/-- Output window 7's buffer after the body, from the input blocks: its stores, the last first. -/
def out0_7 (x0 : Vec F S256x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) : Vec F S256x3072 .bf16 :=
  View.canon [⟨r0_5, k0_pay4 (View.ld x0 r0_0) (View.ld x3 r0_1) (View.ld x6 r0_2)⟩,
    ⟨r0_4, k0_pay3 (View.ld x0 r0_0) (View.ld x2 r0_1) (View.ld x5 r0_2)⟩,
    ⟨r0_3, k0_pay2 (View.ld x0 r0_0) (View.ld x1 r0_1) (View.ld x4 r0_2)⟩]

/-- Its stores cover the buffer. -/
theorem cover0_7 (p0 : Vec F S256x1024 .bf16) (p1 : Vec F S256x1024 .bf16) (p2 : Vec F S256x1024 .bf16) (y : S256x3072.Idx) :
    ∃ pc ∈ ([⟨r0_5, p0⟩, ⟨r0_4, p1⟩, ⟨r0_3, p2⟩] : List (View.Piece (Elt F) S256x3072 .bf16)), y ∈ pc.1.set :=
  View.cover_of_tiled [⟨r0_5, p0⟩, ⟨r0_4, p1⟩, ⟨r0_3, p2⟩] S256x1024.size (by rfl) y

/-! ## The body's triple -/

set_option maxHeartbeats 1000000 in
/-- The body keeps its inputs and leaves each output at what is stated above. -/
theorem sound_kernel0 (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x3072 .bf16) (harg8 : arg8.IsWhole)
    (x0 : Vec F S256x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _ _)

/-! ## The launch's proof data -/

/-- The proof data of launch 0: the arrays as it finds them, and each window's buffer after the body at a point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- Its arrays are those found at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs hold their blocks, and the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at point `t`, spelled with its current buffers. -/
theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Kernel.Region1.lean ====
/- Launch 1 (attention): what its body leaves at each grid point, and that it runs, from any contents at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Launch 1: attention -/

/-! ## The windows' blocks -/

/-- Window `w`'s block at point `t`, read off its array. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether it was fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, whether it was fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, whether it was fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body on any buffers -/

/-- One buffer of output window 3, through which its contents are stated. -/
abbrev VO1_3 : View sig .tc .vmem S256x1024 .bf16 := (Memref.whole cc1_stg3_0 : Memref sig .tc .vmem S256x1024 .bf16).view
/-- Each window's current buffer at point `t`. -/
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
/-- The scratch buffers. -/
abbrev scM1_0 : Memref sig .tc .vmem S16x2048x64 .bf16 := Memref.whole cc1_scratch0
abbrev scM1_1 : Memref sig .tc .vmem S16x2048x64 .bf16 := Memref.whole cc1_scratch1

/-- The two scratch buffers that the kernel carries between points, as views. -/
abbrev VS1_0 : View sig .tc .vmem S16x2048x64 .bf16 := scM1_0.view
abbrev VS1_1 : View sig .tc .vmem S16x2048x64 .bf16 := scM1_1.view

/-- The scratch buffers taken out of the launch's own buffers. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Pipeline.scopedRestBut spec1 c [cc1_scratch0, cc1_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc]

/-- The launch's invariant with the scratch buffers at any contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Pipeline.scopedRestBut spec1 c [cc1_scratch0, cc1_scratch1]) ∗ (∃ r, prngReg c r)) := by
  unfold Pipeline.ΦA; rw [scopedRest1_flat]; simp only [scM1_0, scM1_1, owns_whole]; try rfl

/-! ## The body's branch conditions -/

/-- The condition of the body's branch 0, from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, e0]
    word_cmp
   : ∀ t : Fin grid1.N, cond1_0 (grid1.coords t) ↔ t.val % 8 = 0)

set_option maxHeartbeats 1108000 in
/-- Case A, the first point: the stores that the body makes, with the proof that it runs, keeps its inputs and makes them. -/
noncomputable def kernelRun1_A (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) :
    Σ' (L3 : List (View.Piece (Elt F) S256x1024 .bf16)), Σ' (LS0 : List (View.Piece (Elt F) S16x2048x64 .bf16)), { LS1 : List (View.Piece (Elt F) S16x2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__attn_kernel i arg1 harg1 arg2 harg2 arg3 harg3 arg4 harg4 arg5 harg5 arg6 harg6) K } := by
  refine ⟨?_, ?_, ?_, fun E K => ?run⟩
  case run =>
    simp only [cc1__attn_kernel_eq_skeleton]; unfold cc1__attn_kernel_skel
    simp only [k1_part6_eq_skeleton, k1_part1_eq_skeleton, k1_part2_eq_skeleton, k1_part3_eq_skeleton, k1_part4_eq_skeleton, k1_part5_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

set_option maxHeartbeats 1000000 in
/-- Case B, a later point: the stores that the body makes, with the proof that it runs, keeps its inputs and makes them. -/
noncomputable def kernelRun1_B (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : ¬cond1_0 i)
    (x0 : Vec F S256x1024 .bf16) (x1 : Vec F S2048x1024 .bf16) (x2 : Vec F S2048x1024 .bf16) (xs0 : Vec F S16x2048x64 .bf16) (xs1 : Vec F S16x2048x64 .bf16) :
    Σ' (L3 : List (View.Piece (Elt F) S256x1024 .bf16)), Σ' (LS0 : List (View.Piece (Elt F) S16x2048x64 .bf16)), { LS1 : List (View.Piece (Elt F) S16x2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0 ∗ owns (c : Thread nD τ) arg6 fullShare xs1) -∗ K ⟨⟩))
          ⊢ wp frame (wpE (defs₀ (F := F)) Variants.none c none) E (cc1__attn_kernel i arg1 harg1 arg2 harg2 arg3 harg3 arg4 harg4 arg5 harg5 arg6 harg6) K } := by
  refine ⟨?_, [], [], fun E K => ?run⟩
  case run =>
    simp only [cc1__attn_kernel_eq_skeleton]; unfold cc1__attn_kernel_skel
    simp only [k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg5.read_unread _
      iexact HS0
    iexists _; isplitr; · ipureintro; exact harg6.read_unread _
    iexact HS1

/-- Case A's stores cover output 3. -/
theorem cover1_A_3 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) (y : S256x1024.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S256x64.size (by sl_kernel_rfl) y

/-- What case A leaves in output 3's buffer. -/
def out1_A_3 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) : Vec F S256x1024 .bf16 :=
  VO1_3.read (Elt F) (VO1_3.writes (Elt F) VO1_3.junk (kernelRun1_A c i arg1 harg1 arg2 harg2 arg3 harg3 arg4 harg4 arg5 harg5 arg6 harg6 hc0 x0 x1 x2).1)

/-- Case A's stores cover the scratch buffer `arg5`. -/
theorem scover1_A_0 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) (y : S16x2048x64.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x2048x64.size (by sl_kernel_rfl) y

/-- What case A leaves in the scratch buffer `arg5`. -/
def sout1_A_0 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) : Vec F S16x2048x64 .bf16 :=
  VS1_0.read (Elt F) (VS1_0.writes (Elt F) VS1_0.junk (kernelRun1_A c i arg1 harg1 arg2 harg2 arg3 harg3 arg4 harg4 arg5 harg5 arg6 harg6 hc0 x0 x1 x2).2.1)

/-- Case A's stores cover the scratch buffer `arg6`. -/
theorem scover1_A_1 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) (y : S16x2048x64.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1x2048x64.size (by sl_kernel_rfl) y

/-- What case A leaves in the scratch buffer `arg6`. -/
def sout1_A_1 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : cond1_0 i)
    (x0 : Vec F S256x1024 .bf16) (x1 : Vec F S2048x1024 .bf16) (x2 : Vec F S2048x1024 .bf16) : Vec F S16x2048x64 .bf16 :=
  VS1_1.read (Elt F) (VS1_1.writes (Elt F) VS1_1.junk (kernelRun1_A c i arg1 harg1 arg2 harg2 arg3 harg3 arg4 harg4 arg5 harg5 arg6 harg6 hc0 x0 x1 x2).2.2.1)

/-- Case B's stores cover output 3. -/
theorem cover1_B_3 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : ¬cond1_0 i)
    (x0 : Vec F S256x1024 .bf16) (x1 : Vec F S2048x1024 .bf16) (x2 : Vec F S2048x1024 .bf16) (xs0 : Vec F S16x2048x64 .bf16) (xs1 : Vec F S16x2048x64 .bf16) (y : S256x1024.Idx) :
    ∃ pc ∈ (kernelRun1_B c i arg1 harg1 arg2 harg2 arg3 harg3 arg4 harg4 arg5 harg5 arg6 harg6 hc0 x0 x1 x2 xs0 xs1).1, y ∈ pc.1.set :=
  View.cover_of_tiledL (kernelRun1_B c i arg1 harg1 arg2 harg2 arg3 harg3 arg4 harg4 arg5 harg5 arg6 harg6 hc0 x0 x1 x2 xs0 xs1).1 S256x64.size (by sl_kernel_rfl) y

/-- What case B leaves in output 3's buffer. -/
def out1_B_3 (c : Dev nD) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S16x2048x64 .bf16) (harg5 : arg5.IsWhole) (arg6 : Memref sig .tc .vmem S16x2048x64 .bf16) (harg6 : arg6.IsWhole) (hc0 : ¬cond1_0 i)
    (x0 : Vec F S256x1024 .bf16) (x1 : Vec F S2048x1024 .bf16) (x2 : Vec F S2048x1024 .bf16) (xs0 : Vec F S16x2048x64 .bf16) (xs1 : Vec F S16x2048x64 .bf16) : Vec F S256x1024 .bf16 :=
  VO1_3.read (Elt F) (VO1_3.writes (Elt F) VO1_3.junk (kernelRun1_B c i arg1 harg1 arg2 harg2 arg3 harg3 arg4 harg4 arg5 harg5 arg6 harg6 hc0 x0 x1 x2 xs0 xs1).1)

/-! ## What the outputs and the carried scratch hold -/

/-- The grid's first point. -/
abbrev t₀1 : Fin cfg1.N := ⟨0, lt_of_lt_of_eq (by decide : 0 < 8) (show 8 = cfg1.N from N_1.symm)⟩

/-- The head-major copy of the keys that the first point leaves in the first scratch, and every later point finds there. -/
def keys1 (c : Dev nD) : Vec F S16x2048x64 .bf16 :=
  sout1_A_0 c (grid1.coords t₀1) (ms1_0 t₀1) (hs1_0 t₀1) (ms1_1 t₀1) (hs1_1 t₀1) (ms1_2 t₀1) (hs1_2 t₀1) (ms1_3 t₀1) (hs1_3 t₀1) scM1_0 (Memref.isWhole_whole _) scM1_1 (Memref.isWhole_whole _) ((hcond1_0 t₀1).mpr (Nat.zero_mod _)) (iblk1 V c 0 t₀1) (iblk1 V c 1 t₀1) (iblk1 V c 2 t₀1)

/-- The head-major copy of the values in the second scratch. -/
def vals1 (c : Dev nD) : Vec F S16x2048x64 .bf16 :=
  sout1_A_1 c (grid1.coords t₀1) (ms1_0 t₀1) (hs1_0 t₀1) (ms1_1 t₀1) (hs1_1 t₀1) (ms1_2 t₀1) (hs1_2 t₀1) (ms1_3 t₀1) (hs1_3 t₀1) scM1_0 (Memref.isWhole_whole _) scM1_1 (Memref.isWhole_whole _) ((hcond1_0 t₀1).mpr (Nat.zero_mod _)) (iblk1 V c 0 t₀1) (iblk1 V c 1 t₀1) (iblk1 V c 2 t₀1)

/-- What the output's staging buffer holds after the body at point `t`: at the first point what the copying case leaves, at
    a later one what the reading case leaves over the copies. -/
def outsAt1 (c : Dev nD) (t : Fin cfg1.N) : Vec F S256x1024 .bf16 :=
  if h : t.val % 8 = 0 then
    out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h) (iblk1 V c 0 t) (iblk1 V c 1 t) (iblk1 V c 2 t)
  else
    out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h' => h ((hcond1_0 t).mp h')) (iblk1 V c 0 t) (iblk1 V c 1 t) (iblk1 V c 2 t) (keys1 V c) (vals1 V c)

/-- The region's invariant before point `n`: before the first point the scratch at anything; afterwards the two copies. -/
def Phi1 (c : Dev nD) (n : ℕ) : sProp 𝕄 :=
  if n = 0 then Pipeline.ΦA spec1 c
  else iprop(iprop(owns (c : Thread nD τ) scM1_0 fullShare (keys1 V c) ∗ owns (c : Thread nD τ) scM1_1 fullShare (vals1 V c) ∗ Pipeline.scopedRestBut spec1 c [cc1_scratch0, cc1_scratch1]) ∗ (∃ r, prngReg c r))

/-- The launch's invariant with the copies forgotten: what it gives back at its end. -/
theorem Phi1_forget (c : Dev nD) (n : ℕ) : Phi1 V c n ⊢ Pipeline.ΦA spec1 c := by
  unfold Phi1; split
  · exact .rfl
  · rw [PhiA1_eq]
    iintro ⟨⟨HS0, HS1, HR⟩, Hg⟩
    isplitr [Hg]
    · isplitl [HS0]; · iexists _; iexact HS0
      isplitl [HS1]; · iexists _; iexact HS1
      iexact HR
    iexact Hg
/-! ## The launch's proof data -/

/-- The proof data of launch 1: the arrays as it finds them, and each window's buffer after the body at a point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ t := Phi1 V c t.val
  q w := Pipeline.shareOf spec1 w
  owed _ := 0

/-- Its arrays are those found at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: at the first point the copying case runs over scratch at anything and leaves the copies, at a
    later one the reading case runs over them and leaves them in place. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3,
    show (dat1 V c).Φ t.castSucc = Phi1 V c t.val from rfl, show (dat1 V c).Φ t.succ = Phi1 V c (t.val + 1) from rfl]
  have hN : t.val < 8 := lt_of_lt_of_eq t.isLt (show cfg1.N = 8 from N_1)
  have hsucc : Phi1 V c (t.val + 1) = _ := if_neg (Nat.succ_ne_zero _)
  rw [hsucc]
  by_cases h0 : t.val % 8 = 0
  · obtain rfl : t = t₀1 := Fin.ext (by show t.val = 0; omega)
    have hz : Phi1 V c (t₀1 : Fin cfg1.N).val = _ := if_pos rfl
    have ho : outsAt1 V c t₀1 = _ := dif_pos h0
    rw [hz, PhiA1_eq, ho]
    unfold keys1 vals1 out1_A_3 sout1_A_0 sout1_A_1
    iintro ⟨⟨⟨HS0, HS1, HR⟩, Hg⟩, Ho, ⟨%d0, H0⟩, ⟨%d1, H1⟩, ⟨%d2, H2⟩, ⟨%d3, H3⟩⟩
    iapply ((kernelRun1_A c (grid1.coords t₀1) _ _ _ _ _ _ _ _ _ _ _ _ ((hcond1_0 t₀1).mpr h0) (iblk1 V c 0 t₀1) (iblk1 V c 1 t₀1) (iblk1 V c 2 t₀1)).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _)
  · have hz : Phi1 V c t.val = _ := if_neg fun h => h0 (by rw [h])
    have ho : outsAt1 V c t = _ := dif_neg h0
    rw [hz, ho]
    unfold out1_B_3
    iintro ⟨⟨⟨HS0, HS1, HR⟩, Hg⟩, Ho, ⟨%d0, H0⟩, ⟨%d1, H1⟩, ⟨%d2, H2⟩, ⟨%d3, H3⟩⟩
    iapply ((kernelRun1_B c (grid1.coords t) _ _ _ _ _ _ _ _ _ _ _ _ (fun h => h0 ((hcond1_0 t).mp h)) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _)

/-- The body at point `t`, spelled with its current buffers. -/
theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Kernel.Region2.lean ====
/- Launch 2 (output projection and quantisation): what its body leaves at each grid point, and that it runs, from any contents at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Launch 2: output projection and quantisation -/

/-! ## The windows' blocks -/

/-- Window `w`'s block at point `t`, read off its array. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether it was fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point, whether it was fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block at every point, whether it was fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block at every point, whether it was fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block at every point, whether it was fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block at every point, whether it was fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's buffer holds its block at every point, whether it was fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's buffer holds its block at every point, whether it was fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's buffer holds its block at every point, whether it was fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's buffer holds its block at every point, whether it was fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's buffer holds its block at every point, whether it was fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's buffer holds its block at every point, whether it was fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's branch 0, from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, e0]
    word_cmp
   : ∀ t : Fin grid2.N, cond2_0 (grid2.coords t) ↔ t.val % 8 = 0)

/-! ## The body on any buffers -/

/-- One buffer of output window 12, through which its contents are stated. -/
abbrev VO2_12 : View sig .tc .vmem S256x1024 .f32 := (Memref.whole cc2_stg12_0 : Memref sig .tc .vmem S256x1024 .f32).view
/-- One buffer of output window 13, through which its contents are stated. -/
abbrev VO2_13 : View sig .tc .vmem S1x1 .f32 := (Memref.whole cc2_stg13_0 : Memref sig .tc .vmem S1x1 .f32).view
/-- One buffer of output window 14, through which its contents are stated. -/
abbrev VO2_14 : View sig .tc .vmem S1x1 .f32 := (Memref.whole cc2_stg14_0 : Memref sig .tc .vmem S1x1 .f32).view
/-- Each window's current buffer at point `t`. -/
abbrev ms2_0 (t : Fin cfg2.N) : Memref sig .tc .vmem S256x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S128x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x1024 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1024 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x1024 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S256x1 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S256x1024 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x1 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x1 .f32 := win2_14.stage (cfg2.slots t 14)
abbrev hs2_14 (t : Fin cfg2.N) : (ms2_14 t).IsWhole := hstage2_14 ((cfg2.slots t 14).cast nbuf2_14)

set_option maxHeartbeats 1000000 in
/-- Case A, the first point: the stores that the body makes, with the proof that it runs, keeps its inputs and makes them. -/
noncomputable def kernelRun2_A (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) :
    Σ' (L12 : List (View.Piece (Elt F) S256x1024 .f32)), Σ' (L13 : List (View.Piece (Elt F) S1x1 .f32)), { L14 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc2__pvq_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc2__pvq_kernel_eq_skeleton]; unfold cc2__pvq_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    iexists _; iexact H14

/-- Case A's stores cover output 12. -/
theorem cover2_A_12 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (y : S256x1024.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1 S256x1024.size (by sl_kernel_rfl) y

/-- What case A leaves in output 12's buffer. -/
def out2_A_12 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) : Vec F S256x1024 .f32 :=
  VO2_12.read (Elt F) (VO2_12.writes (Elt F) VO2_12.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1)

/-- Case A's stores cover output 13. -/
theorem cover2_A_13 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (y : S1x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1 S1x1.size (by sl_kernel_rfl) y

/-- What case A leaves in output 13's buffer. -/
def out2_A_13 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) : Vec F S1x1 .f32 :=
  VO2_13.read (Elt F) (VO2_13.writes (Elt F) VO2_13.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1)

/-- Case A's stores cover output 14. -/
theorem cover2_A_14 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (y : S1x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.2.1 S1x1.size (by sl_kernel_rfl) y

/-- What case A leaves in output 14's buffer. -/
def out2_A_14 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) : Vec F S1x1 .f32 :=
  VO2_14.read (Elt F) (VO2_14.writes (Elt F) VO2_14.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.2.1)

set_option maxHeartbeats 1000000 in
/-- Case B, a later point: the stores that the body makes, with the proof that it runs, keeps its inputs and makes them. -/
noncomputable def kernelRun2_B (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) :
    Σ' (L12 : List (View.Piece (Elt F) S256x1024 .f32)), Σ' (L13 : List (View.Piece (Elt F) S1x1 .f32)), { L14 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13 ∗ owns (c : Thread nD τ) arg15 fullShare xo14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc2__pvq_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc2__pvq_kernel_eq_skeleton]; unfold cc2__pvq_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    iexists _; iexact H14

/-- Case B's stores cover output 12. -/
theorem cover2_B_12 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) (y : S256x1024.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).1 S256x1024.size (by sl_kernel_rfl) y

/-- What case B leaves in output 12's buffer. -/
def out2_B_12 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) : Vec F S256x1024 .f32 :=
  VO2_12.read (Elt F) (VO2_12.writes (Elt F) VO2_12.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).1)

/-- Case B's stores cover output 13. -/
theorem cover2_B_13 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) (y : S1x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.1 S1x1.size (by sl_kernel_rfl) y

/-- What case B leaves in output 13's buffer. -/
def out2_B_13 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) : Vec F S1x1 .f32 :=
  VO2_13.read (Elt F) (VO2_13.writes (Elt F) VO2_13.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.1)

/-- Case B's stores cover output 14. -/
theorem cover2_B_14 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) (y : S1x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.2.1 S1x1.size (by sl_kernel_rfl) y

/-- What case B leaves in output 14's buffer. -/
def out2_B_14 (c : Dev nD) (i : grid2.Coords) (arg1 : Memref sig .tc .vmem S256x1024 .f32) (harg1 : arg1.IsWhole) (arg2 : Memref sig .tc .vmem S256x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S128x256 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1 .f32) (harg12 : arg12.IsWhole) (arg13 : Memref sig .tc .vmem S256x1024 .f32) (harg13 : arg13.IsWhole) (arg14 : Memref sig .tc .vmem S1x1 .f32) (harg14 : arg14.IsWhole) (arg15 : Memref sig .tc .vmem S1x1 .f32) (harg15 : arg15.IsWhole) (hc0 : ¬cond2_0 i)
    (x0 : Vec F S256x1024 .f32) (x1 : Vec F S256x1024 .bf16) (x2 : Vec F S1024x1024 .bf16) (x3 : Vec F S1x1024 .f32) (x4 : Vec F S1x1024 .f32) (x5 : Vec F S1x1024 .f32) (x6 : Vec F S1024x256 .f32) (x7 : Vec F S128x256 .f32) (x8 : Vec F S256x1024 .bf16) (x9 : Vec F S1x1024 .f32) (x10 : Vec F S1x1024 .f32) (x11 : Vec F S256x1 .f32) (xo13 : Vec F S1x1 .f32) (xo14 : Vec F S1x1 .f32) : Vec F S1x1 .f32 :=
  VO2_14.read (Elt F) (VO2_14.writes (Elt F) VO2_14.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo13 xo14).2.2.1)

/-! ## What the outputs hold after each point -/

/-- What the outputs' buffers hold after each point: at the first what case A leaves, at a later one what case B leaves over the point before. -/
def outsAt2 (c : Dev nD) : (n : ℕ) → n < cfg2.N → Vec F S256x1024 .f32 × Vec F S1x1 .f32 × Vec F S1x1 .f32
  | 0, hn => (out2_A_12 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩), out2_A_13 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩), out2_A_14 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩))
  | n + 1, hn =>
    if h0 : (n + 1) % 8 = 0 then
      (out2_A_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩), out2_A_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩), out2_A_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩))
    else
      (out2_B_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (outsAt2 c n (Nat.lt_of_succ_lt hn)).2.1 (outsAt2 c n (Nat.lt_of_succ_lt hn)).2.2, out2_B_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (outsAt2 c n (Nat.lt_of_succ_lt hn)).2.1 (outsAt2 c n (Nat.lt_of_succ_lt hn)).2.2, out2_B_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (outsAt2 c n (Nat.lt_of_succ_lt hn)).2.1 (outsAt2 c n (Nat.lt_of_succ_lt hn)).2.2)

/-- `outsAt2` at a point of case A: that case's contents. -/
theorem outsAt2_A (c : Dev nD) (t : Fin cfg2.N) (h0 : t.val % 8 = 0) :
    outsAt2 V c t.val t.isLt = (out2_A_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t), out2_A_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t), out2_A_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 8 = 0) :
    outsAt2 V c t.val t.isLt = (out2_B_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (outsAt2 V c (t.val - 1) (Nat.lt_of_le_of_lt (Nat.sub_le _ _) t.isLt)).2.1 (outsAt2 V c (t.val - 1) (Nat.lt_of_le_of_lt (Nat.sub_le _ _) t.isLt)).2.2, out2_B_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (outsAt2 V c (t.val - 1) (Nat.lt_of_le_of_lt (Nat.sub_le _ _) t.isLt)).2.1 (outsAt2 V c (t.val - 1) (Nat.lt_of_le_of_lt (Nat.sub_le _ _) t.isLt)).2.2, out2_B_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The launch's proof data -/

/-- The proof data of launch 2: the arrays as it finds them, and each window's buffer after the body at a point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t.val t.isLt).1
    | ⟨13, _⟩ => (outsAt2 V c t.val t.isLt).2.1
    | ⟨14, _⟩ => (outsAt2 V c t.val t.isLt).2.2
  Φ _ := Pipeline.ΦA spec2 c
  q _ := fullShare
  owed _ := 0

/-- Its arrays are those found at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = (outsAt2 V c t.val t.isLt).1 := by dsimp only [dat2]
theorem after2_13 (c : Dev nD) (t : Fin cfg2.N) : (dat2 V c).after 13 t = (outsAt2 V c t.val t.isLt).2.1 := by dsimp only [dat2]
theorem after2_14 (c : Dev nD) (t : Fin cfg2.N) : (dat2 V c).after 14 t = (outsAt2 V c t.val t.isLt).2.2 := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
/-- At a point of case B output 13's buffer holds what the point before left. -/
theorem before2_13_B (c : Dev nD) (t : Fin cfg2.N) (h0 : ¬t.val % 8 = 0) (d) :
    (dat2 V c).before 13 t d = (outsAt2 V c (t.val - 1) (Nat.lt_of_le_of_lt (Nat.sub_le _ _) t.isLt)).2.1 := by
  have hN : t.val < 8 := lt_of_lt_of_eq t.isLt (show cfg2.N = 8 from N_2)
  rw [Dat.before_out_kept _ 13 rfl t (by omega) (Bool.eq_false_iff.mpr fun h => by have := (flush2_13 _).mp h; dsimp only at this; omega)
    (fun _ => rfl) (fun _ _ => rfl)]
  dsimp only [dat2]
/-- At a point of case B output 14's buffer holds what the point before left. -/
theorem before2_14_B (c : Dev nD) (t : Fin cfg2.N) (h0 : ¬t.val % 8 = 0) (d) :
    (dat2 V c).before 14 t d = (outsAt2 V c (t.val - 1) (Nat.lt_of_le_of_lt (Nat.sub_le _ _) t.isLt)).2.2 := by
  have hN : t.val < 8 := lt_of_lt_of_eq t.isLt (show cfg2.N = 8 from N_2)
  rw [Dat.before_out_kept _ 14 rfl t (by omega) (Bool.eq_false_iff.mpr fun h => by have := (flush2_14 _).mp h; dsimp only at this; omega)
    (fun _ => rfl) (fun _ _ => rfl)]
  dsimp only [dat2]

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t))

set_option maxHeartbeats 2400000 in
/-- The body at any point: the inputs hold their blocks, and the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  have hN : t.val < 8 := lt_of_lt_of_eq t.isLt (show cfg2.N = 8 from N_2)
  by_cases h0 : t.val % 8 = 0
  · rw [outsAt2_A V c t h0]
    unfold out2_A_12 out2_A_13 out2_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_A c (grid2.coords t) _ _ _ _ _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    iintro ⟨H0, H1, H2, H3, H4, H5, H6, H7, H8, H9, H10, H11, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover2_A_12 c _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_A_13 c _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_A_14 c _ _ _ _ _ _ _ _ _ _ _ _ _ _ _ _ _ _ _ _ _ _ _ _ _ _ _ _ _ _ _ _ _ _ _ _ _ _ _ _ _ _ _ _)
  · rw [outsAt2_B V c t h0]
    simp only [before2_13_B V c t h0, before2_14_B V c t h0]
    unfold out2_B_12 out2_B_13 out2_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_B c (grid2.coords t) _ _ _ _ _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    iintro ⟨H0, H1, H2, H3, H4, H5, H6, H7, H8, H9, H10, H11, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover2_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_B_14 c _ _ _ _ _ _ _ _ _ _ _ _ _ _ _ _ _ _ _ _ _ _ _ _ _ _ _ _ _ _ _ _ _ _ _ _ _ _ _ _ _ _ _ _ _ _)

/-- The body at point `t`, spelled with its current buffers. -/
theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Kernel.Region3.lean ====
/- Launch 3 (feed-forward network): what its body leaves at each grid point, and that it runs, from any contents at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Launch 3: feed-forward network -/

/-! ## The windows' blocks -/

/-- Window `w`'s block at point `t`, read off its array. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, whether it was fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's buffer holds its block at every point, whether it was fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's buffer holds its block at every point, whether it was fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's buffer holds its block at every point, whether it was fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's buffer holds its block at every point, whether it was fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's buffer holds its block at every point, whether it was fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's buffer holds its block at every point, whether it was fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x1024 := Rect.unit (s := S256x1024) ![0, 0] S256x1024.size inb_S256x1024_S256x1024_0_0
abbrev r3_1 : Rect S1x1024 := Rect.unit (s := S1x1024) ![0, 0] S1x1024.size inb_S1x1024_S1x1024_0_0
abbrev r3_2 : Rect S1024x4096 := Rect.unit (s := S1024x4096) ![0, 0] S1024x1024.size inb_S1024x4096_S1024x1024_0_0
abbrev r3_3 : Rect S1x4096 := Rect.unit (s := S1x4096) ![0, 0] S1x1024.size inb_S1x4096_S1x1024_0_0
abbrev r3_4 : Rect S4096x1024 := Rect.unit (s := S4096x1024) ![0, 0] S1024x1024.size inb_S4096x1024_S1024x1024_0_0
abbrev r3_5 : Rect S1024x4096 := Rect.unit (s := S1024x4096) ![0, 1024] S1024x1024.size inb_S1024x4096_S1024x1024_0_1024
abbrev r3_6 : Rect S1x4096 := Rect.unit (s := S1x4096) ![0, 1024] S1x1024.size inb_S1x4096_S1x1024_0_1024
abbrev r3_7 : Rect S4096x1024 := Rect.unit (s := S4096x1024) ![1024, 0] S1024x1024.size inb_S4096x1024_S1024x1024_1024_0
abbrev r3_8 : Rect S1024x4096 := Rect.unit (s := S1024x4096) ![0, 2048] S1024x1024.size inb_S1024x4096_S1024x1024_0_2048
abbrev r3_9 : Rect S1x4096 := Rect.unit (s := S1x4096) ![0, 2048] S1x1024.size inb_S1x4096_S1x1024_0_2048
abbrev r3_10 : Rect S4096x1024 := Rect.unit (s := S4096x1024) ![2048, 0] S1024x1024.size inb_S4096x1024_S1024x1024_2048_0
abbrev r3_11 : Rect S1024x4096 := Rect.unit (s := S1024x4096) ![0, 3072] S1024x1024.size inb_S1024x4096_S1024x1024_0_3072
abbrev r3_12 : Rect S1x4096 := Rect.unit (s := S1x4096) ![0, 3072] S1x1024.size inb_S1x4096_S1x1024_0_3072
abbrev r3_13 : Rect S4096x1024 := Rect.unit (s := S4096x1024) ![3072, 0] S1024x1024.size inb_S4096x1024_S1024x1024_3072_0

/-! ## What the body leaves in each output window's buffer -/

/-! ### Values of the body that its stores use more than once -/

def k3_pay10 (x0 : Vec F S256x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .bf16 :=
  k3_pay3 (View.ld x0 r3_0) -- `v2`
def k3_pay11 (x0 : Vec F S256x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .f32 :=
  k3_pay4 (View.ld x0 r3_0) (View.ld x4 r3_1) (View.ld x1 r3_2) (View.ld x2 r3_3) (View.ld x3 r3_4) (View.ld x1 r3_5) (View.ld x2 r3_6) (View.ld x3 r3_7) -- `v34`

/-- Output window 7's buffer after the body, from the input blocks: its stores, the last first. -/
def out3_7 (x0 : Vec F S256x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : Vec F S256x1024 .f32 :=
  View.canon [⟨r3_0, k3_pay1 (k3_pay5 (k3_pay10 x0 x1 x2 x3 x4 x5 x6) (k3_pay11 x0 x1 x2 x3 x4 x5 x6) (View.ld x1 r3_8) (View.ld x2 r3_9) (View.ld x3 r3_10) (View.ld x1 r3_11) (View.ld x2 r3_12) (View.ld x3 r3_13)) (k3_pay6 (View.ld x5 r3_1)) (k3_pay7 (View.ld x6 r3_1)) (k3_pay8 (k3_pay10 x0 x1 x2 x3 x4 x5 x6) (k3_pay11 x0 x1 x2 x3 x4 x5 x6) (View.ld x1 r3_8) (View.ld x2 r3_9) (View.ld x3 r3_10) (View.ld x1 r3_11) (View.ld x2 r3_12) (View.ld x3 r3_13)) (k3_pay9 (k3_pay10 x0 x1 x2 x3 x4 x5 x6) (k3_pay11 x0 x1 x2 x3 x4 x5 x6) (View.ld x1 r3_8) (View.ld x2 r3_9) (View.ld x3 r3_10) (View.ld x1 r3_11) (View.ld x2 r3_12) (View.ld x3 r3_13))⟩]

/-- Its stores cover the buffer. -/
theorem cover3_7 (p0 : Vec F S256x1024 .f32) (y : S256x1024.Idx) :
    ∃ pc ∈ ([⟨r3_0, p0⟩] : List (View.Piece (Elt F) S256x1024 .f32)), y ∈ pc.1.set :=
  View.cover_of_tiled [⟨r3_0, p0⟩] S256x1024.size (by rfl) y

/-! ## The body's triple -/

set_option maxHeartbeats 1000000 in
/-- The body keeps its inputs and leaves each output at what is stated above. -/
theorem sound_kernel3 (c : Dev nD) (E : Set ℕ) (i : grid3.Coords) (arg1 : Memref sig .tc .vmem S256x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole)
    (x0 : Vec F S256x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__ffn_kernel i arg1 harg1 arg2 harg2 arg3 harg3 arg4 harg4 arg5 harg5 arg6 harg6 arg7 harg7 arg8 harg8) K := by
  simp only [cc3__ffn_kernel_eq_skeleton]; unfold cc3__ffn_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover3_7 _)).trans ?_
  rfl

/-! ## The launch's proof data -/

/-- The proof data of launch 3: the arrays as it finds them, and each window's buffer after the body at a point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- Its arrays are those found at entry. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs hold their blocks, and the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at point `t`, spelled with its current buffers. -/
theorem defs₀_row3 (t : Fin cfg3.N) :
    defs₀ (F := F) .tc cfg3.body (cfg3.bodyArgs t (cfg3.slots t)) = bodyAt3 t := by
  unfold defs₀; rw [Defs.onTc_tc]

/-- The body's obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Kernel.Hosts0.lean ====
/- The argument buffers, and what each stretch of host operations writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The host stretches -/

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## What they write -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the arguments. -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12, main_v13, main_v14, main_v15, main_v16, main_v17]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the arguments. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v19, main_cst, main_v20, main_v21, main_cst_0, main_v22, main_v23, main_v24, main_v25, main_v26, main_v27, main_v28, main_v29]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the arguments. -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v31]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the arguments. -/
theorem hostOps4_args : ∀ a ∈ argRefs, a ∉ hostOps4_W := ListAll.forall_mem_of_all_decide (by decide +kernel)

end Cert.KernelIdeal.Gen

end
-- ==== Proof.Kernel.Fold0.lean ====
/- The contents of the buffers at each boundary between the segments of the program, and that the arguments are kept throughout. -/
module

public import proofs.«01_k».proof.Proof.Kernel.Region0
public import proofs.«01_k».proof.Proof.Kernel.Region1
public import proofs.«01_k».proof.Proof.Kernel.Region2
public import proofs.«01_k».proof.Proof.Kernel.Region3
public import proofs.«01_k».proof.Proof.Kernel.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same contents, read by buffer. -/
abbrev V1 : (c : Dev nD) → (b : Ref sig .tc) → Buf (Elt F) ((c : Thread nD τ).loc b) := fun c b => W1 m ρ c b
/-- After launch 0: its arrays hold what the launch leaves, every other buffer what it held before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of launch 0's results is kept across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is a result of launch 0. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same contents, read by buffer. -/
abbrev V2 : (c : Dev nD) → (b : Ref sig .tc) → Buf (Elt F) ((c : Thread nD τ).loc b) := fun c b => W2 m ρ c b
/-- After launch 0 each of its arrays holds what the launch leaves, and every other buffer what it held before. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After launch 1: its arrays hold what the launch leaves, every other buffer what it held before. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is none of launch 1's results is kept across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- No argument is a result of launch 1. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same contents, read by buffer. -/
abbrev V3 : (c : Dev nD) → (b : Ref sig .tc) → Buf (Elt F) ((c : Thread nD τ).loc b) := fun c b => W3 m ρ c b
/-- After launch 1 each of its arrays holds what the launch leaves, and every other buffer what it held before. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same contents, read by buffer. -/
abbrev V4 : (c : Dev nD) → (b : Ref sig .tc) → Buf (Elt F) ((c : Thread nD τ).loc b) := fun c b => W4 m ρ c b
/-- After launch 2: its arrays hold what the launch leaves, every other buffer what it held before. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A buffer that is none of launch 2's results is kept across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- No argument is a result of launch 2. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same contents, read by buffer. -/
abbrev V5 : (c : Dev nD) → (b : Ref sig .tc) → Buf (Elt F) ((c : Thread nD τ).loc b) := fun c b => W5 m ρ c b
/-- After launch 2 each of its arrays holds what the launch leaves, and every other buffer what it held before. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same contents, read by buffer. -/
abbrev V6 : (c : Dev nD) → (b : Ref sig .tc) → Buf (Elt F) ((c : Thread nD τ).loc b) := fun c b => W6 m ρ c b
/-- After launch 3: its arrays hold what the launch leaves, every other buffer what it held before. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A buffer that is none of launch 3's results is kept across it. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- No argument is a result of launch 3. -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same contents, read by buffer. -/
abbrev V7 : (c : Dev nD) → (b : Ref sig .tc) → Buf (Elt F) ((c : Thread nD τ).loc b) := fun c b => W7 m ρ c b
/-- After launch 3 each of its arrays holds what the launch leaves, and every other buffer what it held before. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ### The arguments end as launched: nothing writes one -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)
theorem W8_main_arg18 (c : Dev nD) : W8 m ρ c (Proc.devRef .tc main_arg18) = m ((c : Thread nD τ).loc main_arg18) :=
  W8_args m ρ c main_arg18 (by decide)
theorem W8_main_arg19 (c : Dev nD) : W8 m ρ c (Proc.devRef .tc main_arg19) = m ((c : Thread nD τ).loc main_arg19) :=
  W8_args m ρ c main_arg19 (by decide)
theorem W8_main_arg20 (c : Dev nD) : W8 m ρ c (Proc.devRef .tc main_arg20) = m ((c : Thread nD τ).loc main_arg20) :=
  W8_args m ρ c main_arg20 (by decide)
theorem W8_main_arg21 (c : Dev nD) : W8 m ρ c (Proc.devRef .tc main_arg21) = m ((c : Thread nD τ).loc main_arg21) :=
  W8_args m ρ c main_arg21 (by decide)
theorem W8_main_arg22 (c : Dev nD) : W8 m ρ c (Proc.devRef .tc main_arg22) = m ((c : Thread nD τ).loc main_arg22) :=
  W8_args m ρ c main_arg22 (by decide)
end Cert.KernelIdeal.Gen

end
-- ==== Proof.Kernel.State.lean ====
/- The proof data of the four launches and the state that rides along between the segments. -/
module

public import proofs.«01_k».proof.Proof.Kernel.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No launch has a table. -/
abbrev adm : (p : Fin 4) → (pcfgs (F := F) p).Adm := fun p => (cfgs p).toPCfg_adm
/-- The proof data of every launch, each at the contents it is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core waits for another. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that outlives the launches is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last boundary's contents. -/
abbrev Tₙ (c : Dev nD) : sProp 𝕄 := iprop(StableHlo.held (c : Thread nD τ) (Pipeline.ucRefs τ sig) (W8 m ρ c) ∗ ∃ r, prngReg c r)

end Cert.KernelIdeal.Gen

end
-- ==== Proof.Kernel.Record0.lean ====
/- Launch 0 (queries, keys and values) as a segment of the program. -/
module

public import proofs.«01_k».proof.Proof.Kernel.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch as a segment -/

set_option backward.isDefEq.respectTransparency.types false in
/-- Launch 0 over the state between the segments: its arrays are taken out of the buffers, run, and put back at what the launch leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Kernel.Record1.lean ====
/- Launch 1 (attention) as a segment of the program. -/
module

public import proofs.«01_k».proof.Proof.Kernel.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Launch 1 over the state between the segments: its arrays are taken out of the buffers, run, and put back at what the launch leaves. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (pdats m ρ 1 c).Φ 0 = Phi1 (V2 m ρ) c 0 := rfl
    have h1 : Phi1 (V2 m ρ) c 0 = Pipeline.ΦA spec1 c := if_pos rfl
    rw [h0, h1]; unfold Pipeline.ΦA
    iintro ⟨Hp, -, Hr⟩
    isplitl [Hr]; · iexact Hr
    iexact Hp
  hout c := by
    rw [Pipeline.ownSems0_none]
    have h0 : (pdats m ρ 1 c).Φ (Fin.last _) = Phi1 (V2 m ρ) c cfg1.N := rfl
    rw [h0]
    refine (Phi1_forget (V2 m ρ) c _).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Kernel.Record2.lean ====
/- Launch 2 (output projection and quantisation) as a segment of the program. -/
module

public import proofs.«01_k».proof.Proof.Kernel.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Launch 2 over the state between the segments: its arrays are taken out of the buffers, run, and put back at what the launch leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Kernel.Record3.lean ====
/- Launch 3 (feed-forward network) as a segment of the program. -/
module

public import proofs.«01_k».proof.Proof.Kernel.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Launch 3 over the state between the segments: its arrays are taken out of the buffers, run, and put back at what the launch leaves. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Kernel.Frame.lean ====
/- The run of the whole kernel: its eight segments from the launch to the return, the contents every buffer ends at, and that the arguments end as launched. -/
module

public import proofs.«01_k».proof.Proof.Kernel.Record0
public import proofs.«01_k».proof.Proof.Kernel.Record1
public import proofs.«01_k».proof.Proof.Kernel.Record2
public import proofs.«01_k».proof.Proof.Kernel.Record3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments -/

/-- The program's 8 segments in order: a host segment per stretch, a launch segment per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
/-- The program is the run of the segments. -/
theorem main_run (c : Dev nD) : main (F := F) c = Pipeline.Seg.run (segs m ρ) := (main_chain c).trans (by chain_rfl)

/-- No semaphore outlives the launches. -/
theorem no_unscoped : ∀ sm : SemLoc sig, sm.isScoped .tc = true := by decide

set_option backward.isDefEq.respectTransparency.types false in
/-- Every run ends, with each buffer that outlives the launches at the last boundary's contents and every counter at zero. -/
theorem final : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c),
       (h.1 c _ (mem_uc main_arg5 (by decide))).trans (W8_main_arg5 m ρ c),
       (h.1 c _ (mem_uc main_arg6 (by decide))).trans (W8_main_arg6 m ρ c),
       (h.1 c _ (mem_uc main_arg7 (by decide))).trans (W8_main_arg7 m ρ c),
       (h.1 c _ (mem_uc main_arg8 (by decide))).trans (W8_main_arg8 m ρ c),
       (h.1 c _ (mem_uc main_arg9 (by decide))).trans (W8_main_arg9 m ρ c),
       (h.1 c _ (mem_uc main_arg10 (by decide))).trans (W8_main_arg10 m ρ c),
       (h.1 c _ (mem_uc main_arg11 (by decide))).trans (W8_main_arg11 m ρ c),
       (h.1 c _ (mem_uc main_arg12 (by decide))).trans (W8_main_arg12 m ρ c),
       (h.1 c _ (mem_uc main_arg13 (by decide))).trans (W8_main_arg13 m ρ c),
       (h.1 c _ (mem_uc main_arg14 (by decide))).trans (W8_main_arg14 m ρ c),
       (h.1 c _ (mem_uc main_arg15 (by decide))).trans (W8_main_arg15 m ρ c),
       (h.1 c _ (mem_uc main_arg16 (by decide))).trans (W8_main_arg16 m ρ c),
       (h.1 c _ (mem_uc main_arg17 (by decide))).trans (W8_main_arg17 m ρ c),
       (h.1 c _ (mem_uc main_arg18 (by decide))).trans (W8_main_arg18 m ρ c),
       (h.1 c _ (mem_uc main_arg19 (by decide))).trans (W8_main_arg19 m ρ c),
       (h.1 c _ (mem_uc main_arg20 (by decide))).trans (W8_main_arg20 m ρ c),
       (h.1 c _ (mem_uc main_arg21 (by decide))).trans (W8_main_arg21 m ρ c),
       (h.1 c _ (mem_uc main_arg22 (by decide))).trans (W8_main_arg22 m ρ c)⟩, h.2⟩) (final m ρ)

end Cert.KernelIdeal.Gen

end
-- ==== Proof.Transfer.lean ====
module

public import proofs.«01_k».proof.Proof.Kernel.Frame
public import proofs.«01_k».proof.Proof.Gen.Kernel.Launch
public import proofs.«01_k».proof.Defs

/-! The frame of the kernel as printed, at the bits, is the frame proved of the ideal program at every
    reading of the floats: nothing was rewritten between the two, so the two statements are one. -/

@[expose] public section

set_option maxRecDepth 65536

noncomputable section

namespace Cert.Proof

open Idealize.ShloMosaic Idealize.ShloMosaic.TcCoe Idealize.SL.Sem Cert

/-- Every run of the ideal program, read with the floats `F`, ends with its arguments as they were and
    every counter zero. -/
def KeepsArguments (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

theorem keepsArguments (F : FTy → Type) [FloatOps F] : KeepsArguments F :=
  fun m ρ _ => Cert.KernelIdeal.Gen.frame m ρ

/-- The claim about the printed kernel is that claim at the bits, -/
theorem quiescent_eq : quiescent_Kernel (hKernel := Cert.Kernel.Gen.facts) = KeepsArguments Bits := by
  sl_kernel_rfl

/-- so it holds. -/
theorem kernel_frame : quiescent_Kernel (hKernel := Cert.Kernel.Gen.facts) :=
  quiescent_eq.mpr (keepsArguments Bits)

end Cert.Proof

end
-- ==== Proof.LayerNorm.lean ====
/- Layer normalisation of a row over the extended reals, in the two spellings the programs use, and their equality. -/
module

public import Idealize.ShloMosaic.PureOps.Ideal
public import Idealize.ShloMosaic.PureOps.Ideal.Laws
public import Idealize.ShloMosaic.Lib.Pointwise

@[expose] public section

noncomputable section

namespace Cert.Proof

open Idealize.ShloMosaic

/-- The row length 1024 as the programs write it. -/
abbrev cN : EReal := Ideal.ofBits .f32 0x44800000#32
/-- The stabiliser 1e-5 as the programs write it. -/
abbrev cEps : EReal := Ideal.ofBits .f32 0x3727C5AC#32

/-- The row length is the real number 1024. -/
theorem cN_eq : cN = ((1024 : ℝ) : EReal) := by
  simp [cN, Ideal.ofBits, Ideal.ieee]
  norm_cast
  norm_num
/-- The row length is positive, and less no correction it is itself. -/
theorem cN_pos : 0 < cN := by rw [cN_eq]; exact_mod_cast (by norm_num : (0 : ℝ) < 1024)
theorem cN_sub_zero : cN - (FloatOps.sitofp (F := Ideal) .f32 (0#32) : EReal) = cN := by
  have : (FloatOps.sitofp (F := Ideal) .f32 (0#32) : EReal) = 0 := by
    show (((0#32 : BitVec 32).toInt : ℝ) : EReal) = 0
    simp
  rw [this, sub_zero]
/-- The stabiliser is a positive real number. -/
theorem cEps_eq : ∃ e : ℝ, 0 < e ∧ cEps = (e : EReal) := by
  refine ⟨(10995116 : ℝ) * (1 / 1099511627776), by positivity, ?_⟩
  simp [cEps, Ideal.ofBits, Ideal.ieee]
  norm_cast

/-- A product of an extended real with itself is not negative. -/
theorem mul_self_nonneg' (x : EReal) : 0 ≤ x * x := by
  induction x with
  | bot => simp
  | top => simp
  | coe r => exact_mod_cast mul_self_nonneg r

/-- Dividing a nonnegative value by 1024 leaves it nonnegative. -/
theorem div_cN_nonneg {x : EReal} (h : 0 ≤ x) : 0 ≤ Ideal.div x cN := by
  rw [cN_eq]
  induction x with
  | bot => simp at h
  | top => simp [Ideal.div, EReal.top_mul_coe_of_pos, ← EReal.coe_inv]
  | coe r =>
    have hr : 0 ≤ r := by exact_mod_cast h
    have : Ideal.div (r : EReal) ((1024 : ℝ) : EReal) = ((r * (1024 : ℝ)⁻¹ : ℝ) : EReal) := by
      simp [Ideal.div, ← EReal.coe_inv, EReal.coe_mul]
    rw [this]
    exact_mod_cast mul_nonneg hr (by norm_num)

/-- Multiplying by the reciprocal square root of a positive value is dividing by its square root. -/
theorem mul_rsqrt_eq_div_sqrt {v : EReal} (hv : 0 < v) (x : EReal) :
    x * Ideal.rsqrt v = Ideal.div x (Ideal.sqrt v) := by
  induction v with
  | bot => simp at hv
  | top => simp [Ideal.div]
  | coe r =>
    have hr : 0 < r := by exact_mod_cast hv
    have hs : Real.sqrt r ≠ 0 := (Real.sqrt_pos.2 hr).ne'
    rw [Ideal.rsqrt_coe, Ideal.sqrt_coe, if_neg hr.not_gt, if_neg hr.ne', if_neg hr.not_gt, Ideal.div, if_neg (by exact_mod_cast hs), EReal.coe_inv]

/-- The mean of a row. -/
def mean (y : Fin 1024 → EReal) : EReal := Ideal.div (∑ k, y k) cN
/-- The mean square distance of a row from its mean. -/
def variance (y : Fin 1024 → EReal) : EReal := Ideal.div (∑ k, (y k - mean y) * (y k - mean y)) cN
/-- Layer normalisation of a row at column `c`, by division by the square root, with gain `g` and offset `b`. -/
def layerNorm (y : Fin 1024 → EReal) (g b : Fin 1024 → EReal) (c : Fin 1024) : EReal :=
  Ideal.div (y c - mean y) (Ideal.sqrt (variance y + cEps)) * g c + b c

/-- The variance plus the stabiliser is positive. -/
theorem variance_eps_pos (y : Fin 1024 → EReal) : 0 < variance y + cEps := by
  obtain ⟨e, he, h⟩ := cEps_eq
  have h0 : 0 ≤ variance y := div_cN_nonneg (Finset.sum_nonneg fun k _ => mul_self_nonneg' _)
  rw [h]
  exact lt_of_lt_of_le (by exact_mod_cast he) (le_add_of_nonneg_left h0)

/-- Layer normalisation by the reciprocal square root is the same function. -/
theorem layerNorm_eq_rsqrt (y g b : Fin 1024 → EReal) (c : Fin 1024) :
    (y c - mean y) * Ideal.rsqrt (variance y + cEps) * g c + b c = layerNorm y g b c := by
  rw [mul_rsqrt_eq_div_sqrt (variance_eps_pos y)]; rfl

end Cert.Proof
-- ==== Proof.Layer.lean ====
/- The transformer layer with its vector quantiser as functions of rows and matrices of extended reals: the mathematics both programs compute. -/
module

public import proofs.«01_k».proof.Proof.LayerNorm
public import Idealize.ShloMosaic.Lib.ValueIdx

@[expose] public section

noncomputable section

namespace Cert.Proof

open Idealize.ShloMosaic

/-- One eighth, minus infinity, two, 256 and one as the programs write them. -/
abbrev cEighth : EReal := Ideal.ofBits .f32 0x3E000000#32
abbrev cBot : EReal := Ideal.ofBits .f32 0xFF800000#32
abbrev cTwo : EReal := Ideal.ofBits .f32 0x40000000#32
abbrev cQ : EReal := Ideal.ofBits .f32 0x43800000#32
abbrev cOne : EReal := Ideal.ofBits .f32 0x3F800000#32

/-- A row times a matrix, plus an offset, at column `c`. -/
def dense {k n : Nat} (x : Fin k → EReal) (W : Fin k → Fin n → EReal) (b : Fin n → EReal) (c : Fin n) : EReal := (∑ e, x e * W e c) + b c

/-- Column `d` of head `h` among the 1024 columns, and the head of a column. -/
def col (h : Fin 16) (d : Fin 64) : Fin 1024 := ⟨h * 64 + d, by omega⟩
def headOf (c : Fin 1024) : Fin 16 := ⟨c / 64, by omega⟩

/-- The attention score of query row `r` against key row `t` in head `h`. -/
def score (q k : Fin 2048 → Fin 1024 → EReal) (h : Fin 16) (r t : Fin 2048) : EReal := ∑ d, q r (col h d) * k t (col h d)
/-- The unnormalised softmax weight: the exponential of the score less the greatest score of the row. -/
def weight (q k : Fin 2048 → Fin 1024 → EReal) (h : Fin 16) (r t : Fin 2048) : EReal :=
  Ideal.exp (score q k h r t - Finset.univ.fold max cBot (score q k h r))
/-- Attention: the average of the values under the normalised weights. -/
def attend (q k v : Fin 2048 → Fin 1024 → EReal) (r : Fin 2048) (c : Fin 1024) : EReal :=
  ∑ t, Ideal.div (weight q k (headOf c) r t) (∑ t, weight q k (headOf c) r t) * v t c
/-- Attention with the division after the average. -/
def attendLate (q k v : Fin 2048 → Fin 1024 → EReal) (r : Fin 2048) (c : Fin 1024) : EReal :=
  Ideal.div (∑ t, weight q k (headOf c) r t * v t c) (∑ t, weight q k (headOf c) r t)

/-- The projection of a row into the codebook's space. -/
def project (x : Fin 1024 → EReal) (W : Fin 1024 → Fin 256 → EReal) (p : Fin 256) : EReal := ∑ e, x e * W e p
/-- The squared distance of a projected row from code `k`, -/
def dist (f : Fin 256 → EReal) (cb : Fin 128 → Fin 256 → EReal) (k : Fin 128) : EReal :=
  ∑ p, f p * f p - ∑ p, cTwo * f p * cb k p + ∑ p, cb k p * cb k p
/-- and the same with the factor two outside the sum. -/
def distLate (f : Fin 256 → EReal) (cb : Fin 128 → Fin 256 → EReal) (k : Fin 128) : EReal :=
  ∑ p, f p * f p - cTwo * (∑ p, f p * cb k p) + ∑ p, cb k p * cb k p

/-- The codes at the least distance are not none. -/
theorem minimisers_nonempty (d : Fin 128 → EReal) : (Finset.univ.filter fun k => ∀ j, d k ≤ d j).Nonempty := by
  obtain ⟨k, hk⟩ := Finite.exists_min d
  exact ⟨k, by simpa using hk⟩
/-- The first code at the least distance. -/
def nearest (d : Fin 128 → EReal) : Fin 128 := (Finset.univ.filter fun k => ∀ j, d k ≤ d j).min' (minimisers_nonempty d)
/-- The nearest code's distance is the least, -/
theorem nearest_le (d : Fin 128 → EReal) (j : Fin 128) : d (nearest d) ≤ d j := by
  have h := Finset.min'_mem _ (minimisers_nonempty d)
  simp only [Finset.mem_filter] at h
  exact h.2 j
/-- and no earlier code has it: every code at the least distance comes no earlier. -/
theorem nearest_first (d : Fin 128 → EReal) (k : Fin 128) (h : ∀ j, d k ≤ d j) : nearest d ≤ k :=
  Finset.min'_le _ _ (by simpa using h)

/-- The row after the quantised codes are embedded back and added, where `s` is the quantised row and `m` the mask as a number. -/
def embed (x : Fin 1024 → EReal) (s : Fin 256 → EReal) (m : EReal) (W : Fin 256 → Fin 1024 → EReal) (c : Fin 1024) : EReal :=
  x c + ∑ p, s p * m * W p c
/-- The mean square distance of a projected row from its code. -/
def tokenLoss (q f : Fin 256 → EReal) : EReal := Ideal.div (∑ p, (q p - f p) * (q p - f p)) cQ

/-- One row of the feed-forward network with its residual, before normalisation. -/
def ffnRow (x : Fin 1024 → EReal) (W1 : Fin 1024 → Fin 4096 → EReal) (b1 : Fin 4096 → EReal)
    (W2 : Fin 4096 → Fin 1024 → EReal) (b2 : Fin 1024 → EReal) (c : Fin 1024) : EReal :=
  x c + (∑ j, max ((∑ k, x k * W1 k j) + b1 j) 0 * W2 j c) + b2 c

/-- What the layer takes: its input rows, the mask and the weights. -/
structure Params where
  (x : Fin 2048 → Fin 1024 → EReal) (mask : Fin 2048 → BitVec 1)
  (Wq : Fin 1024 → Fin 1024 → EReal) (bq : Fin 1024 → EReal) (Wk : Fin 1024 → Fin 1024 → EReal) (bk : Fin 1024 → EReal)
  (Wv : Fin 1024 → Fin 1024 → EReal) (bv : Fin 1024 → EReal) (Wo : Fin 1024 → Fin 1024 → EReal) (bo : Fin 1024 → EReal)
  (g1 o1 : Fin 1024 → EReal) (Wtovq : Fin 1024 → Fin 256 → EReal) (cb : Fin 128 → Fin 256 → EReal) (Wtoemb : Fin 256 → Fin 1024 → EReal)
  (gq oq : Fin 1024 → EReal) (W1 : Fin 1024 → Fin 4096 → EReal) (b1 : Fin 4096 → EReal) (W2 : Fin 4096 → Fin 1024 → EReal) (b2 : Fin 1024 → EReal)
  (g2 o2 : Fin 1024 → EReal)

/-- They are read from the argument arrays. -/
def Params.ofArrays (x : (⟨3, ![2048, 1, 1024]⟩ : Shape).Idx → EReal) (mask : (⟨2, ![1, 2048]⟩ : Shape).Idx → BitVec 1)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo g1 o1 : (⟨1, ![1024]⟩ : Shape).Idx → EReal)
    (Wtovq : (⟨2, ![1024, 256]⟩ : Shape).Idx → EReal) (cb : (⟨2, ![128, 256]⟩ : Shape).Idx → EReal) (Wtoemb : (⟨2, ![256, 1024]⟩ : Shape).Idx → EReal)
    (gq oq : (⟨1, ![1024]⟩ : Shape).Idx → EReal) (W1 : (⟨2, ![1024, 4096]⟩ : Shape).Idx → EReal) (b1 : (⟨1, ![4096]⟩ : Shape).Idx → EReal)
    (W2 : (⟨2, ![4096, 1024]⟩ : Shape).Idx → EReal) (b2 g2 o2 : (⟨1, ![1024]⟩ : Shape).Idx → EReal) : Params where
  x r c := x (ix3 r 0 c)
  mask r := mask (ix2 0 r)
  Wq e c := Wq (ix2 e c)
  bq c := bq (ix1 c)
  Wk e c := Wk (ix2 e c)
  bk c := bk (ix1 c)
  Wv e c := Wv (ix2 e c)
  bv c := bv (ix1 c)
  Wo e c := Wo (ix2 e c)
  bo c := bo (ix1 c)
  g1 c := g1 (ix1 c)
  o1 c := o1 (ix1 c)
  Wtovq e p := Wtovq (ix2 e p)
  cb k p := cb (ix2 k p)
  Wtoemb p c := Wtoemb (ix2 p c)
  gq c := gq (ix1 c)
  oq c := oq (ix1 c)
  W1 e j := W1 (ix2 e j)
  b1 j := b1 (ix1 j)
  W2 j c := W2 (ix2 j c)
  b2 c := b2 (ix1 c)
  g2 c := g2 (ix1 c)
  o2 c := o2 (ix1 c)

namespace Params
variable (P : Params)
/-- Queries, already scaled by one eighth; keys; values. -/
def q (r : Fin 2048) (c : Fin 1024) : EReal := dense (P.x r) P.Wq P.bq c * cEighth
def k (r : Fin 2048) (c : Fin 1024) : EReal := dense (P.x r) P.Wk P.bk c
def v (r : Fin 2048) (c : Fin 1024) : EReal := dense (P.x r) P.Wv P.bv c
/-- The mask as a number. -/
def m (r : Fin 2048) : EReal := FloatOps.uitofp (F := Ideal) .f32 (P.mask r)
/-- The normalised row after an attention result `a` is mixed and added. -/
def mix (a : Fin 2048 → Fin 1024 → EReal) (r : Fin 2048) : Fin 1024 → EReal :=
  layerNorm (fun c => P.x r c + dense (a r) P.Wo P.bo c) P.g1 P.o1
/-- The row after attention. -/
def x1 : Fin 2048 → Fin 1024 → EReal := P.mix (attend P.q P.k P.v)
/-- Its projection, and the nearest code. -/
def f (r : Fin 2048) : Fin 256 → EReal := project (P.x1 r) P.Wtovq
def code (r : Fin 2048) : Fin 256 → EReal := P.cb (nearest (dist (P.f r) P.cb))
/-- The row after quantisation, where the quantised row is `s`. -/
def quantised (x1 : Fin 1024 → EReal) (s : Fin 256 → EReal) (r : Fin 2048) (c : Fin 1024) : EReal :=
  Scalar.select (P.mask r) (layerNorm (embed x1 s (P.m r) P.Wtoemb) P.gq P.oq c) (x1 c)
/-- The row after quantisation, through the straight-through sum. -/
def x2 (r : Fin 2048) : Fin 1024 → EReal := P.quantised (P.x1 r) (fun p => P.f r p + (P.code r p - P.f r p)) r
/-- The feed-forward stage of a row. -/
def ffn (x : Fin 1024 → EReal) : Fin 1024 → EReal := layerNorm (ffnRow x P.W1 P.b1 P.W2 P.b2) P.g2 P.o2
/-- The layer's first result. -/
def x3 (r : Fin 2048) : Fin 1024 → EReal := P.ffn (P.x2 r)
/-- The layer's second result, the commitment loss: the mean square distance over the masked rows. -/
def loss : EReal := Ideal.div (∑ r, tokenLoss (P.code r) (P.f r) * P.m r) (max (∑ r, P.m r) cOne)

/-- The same layer in the order the kernel works: the softmax divides late, -/
def x1' : Fin 2048 → Fin 1024 → EReal := P.mix (attendLate P.q P.k P.v)
def f' (r : Fin 2048) : Fin 256 → EReal := project (P.x1' r) P.Wtovq
/-- the factor two is outside the product with the codebook, -/
def code' (r : Fin 2048) : Fin 256 → EReal := P.cb (nearest (distLate (P.f' r) P.cb))
/-- and the code itself is embedded. -/
def x2' (r : Fin 2048) : Fin 1024 → EReal := P.quantised (P.x1' r) (P.code' r) r
def x3' (r : Fin 2048) : Fin 1024 → EReal := P.ffn (P.x2' r)
def loss' : EReal := Ideal.div (∑ r, tokenLoss (P.code' r) (P.f' r) * P.m r) (max (∑ r, P.m r) cOne)
end Params

end Cert.Proof
-- ==== Proof.Equation.lean ====
/- The equation: for real inputs the layer in the kernel's order is the layer in the reference's order. -/
module

public import proofs.«01_k».proof.Proof.Layer
public import Idealize.ShloMosaic.PureOps.Ideal
public import Idealize.ShloMosaic.PureOps.Ideal.Laws

@[expose] public section

noncomputable section

namespace Cert.Proof

open Idealize.ShloMosaic

/-- A value that is a real number. -/
def IsReal (a : EReal) : Prop := ∃ r : ℝ, a = (r : EReal)

theorem isReal_of_ne {a : EReal} (ht : a ≠ ⊤) (hb : a ≠ ⊥) : IsReal a := by
  induction a with
  | bot => exact absurd rfl hb
  | top => exact absurd rfl ht
  | coe r => exact ⟨r, rfl⟩

/-- Sums, differences and products of real numbers are real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩
theorem IsReal.sub {a b : EReal} (ha : IsReal a) (hb : IsReal b) : IsReal (a - b) := by
  obtain ⟨r, rfl⟩ := ha
  obtain ⟨s, rfl⟩ := hb
  exact ⟨r - s, (EReal.coe_sub r s).symm⟩
theorem IsReal.mul {a b : EReal} (ha : IsReal a) (hb : IsReal b) : IsReal (a * b) := by
  obtain ⟨r, rfl⟩ := ha
  obtain ⟨s, rfl⟩ := hb
  exact ⟨r * s, (EReal.coe_mul r s).symm⟩
theorem IsReal.sum {ι : Type} (s : Finset ι) {g : ι → EReal} (h : ∀ i, IsReal (g i)) : IsReal (∑ i ∈ s, g i) := by
  classical
  induction s using Finset.induction_on with
  | empty => exact ⟨0, by simp⟩
  | insert i s hi ih => rw [Finset.sum_insert hi]; exact (h i).add ih
/-- The sum of real numbers taken as extended reals. -/
theorem sum_coe {ι : Type} (s : Finset ι) (w : ι → ℝ) : ∑ i ∈ s, (w i : EReal) = ((∑ i ∈ s, w i : ℝ) : EReal) := by
  classical
  induction s using Finset.induction_on with
  | empty => simp
  | insert i s hi ih => rw [Finset.sum_insert hi, Finset.sum_insert hi, ih, EReal.coe_add]
theorem IsReal.max {a b : EReal} (ha : IsReal a) (hb : IsReal b) : IsReal (max a b) := by
  rcases max_choice a b with h | h <;> rw [h] <;> assumption

/-- A nonnegative real factor goes in and out of a sum of any extended reals. -/
theorem real_mul_sum {ι : Type} (s : Finset ι) (g : ι → EReal) {a : ℝ} (ha : 0 ≤ a) : (a : EReal) * ∑ i ∈ s, g i = ∑ i ∈ s, (a : EReal) * g i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- Dividing by a positive real number is multiplying by its inverse, a positive real number. -/
theorem div_real {l : ℝ} (hl : 0 < l) (a : EReal) : Ideal.div a (l : EReal) = a * ((l⁻¹ : ℝ) : EReal) := by
  rw [Ideal.div, if_neg (by exact_mod_cast hl.ne'), EReal.coe_inv]

/-- One eighth is real, minus infinity is the least value, and two is a positive real. -/
theorem cEighth_real : IsReal cEighth := by
  refine ⟨1 / 8, ?_⟩
  simp [cEighth, Ideal.ofBits, Ideal.ieee]
  norm_cast
  norm_num
theorem cBot_eq : cBot = ⊥ := by
  simp [cBot, Ideal.ofBits, Ideal.ieee]
theorem cTwo_eq : cTwo = ((2 : ℝ) : EReal) := by
  simp [cTwo, Ideal.ofBits, Ideal.ieee]
  norm_cast
  norm_num

/-- A row of real numbers times a real matrix plus a real offset is real. -/
theorem dense_real {k n : Nat} {x : Fin k → EReal} {W : Fin k → Fin n → EReal} {b : Fin n → EReal} (hx : ∀ e, IsReal (x e))
    (hW : ∀ e c, IsReal (W e c)) (hb : ∀ c, IsReal (b c)) (c : Fin n) : IsReal (dense x W b c) :=
  (IsReal.sum _ fun e => (hx e).mul (hW e c)).add (hb c)

/-- The greatest of some real numbers, with minus infinity, is real. -/
theorem fold_max_real {n : Nat} (g : Fin (n + 1) → EReal) (h : ∀ t, IsReal (g t)) : IsReal (Finset.univ.fold max cBot g) := by
  have key : ∀ s : Finset (Fin (n + 1)), s.fold max cBot g = ⊥ ∧ s = ∅ ∨ IsReal (s.fold max cBot g) := by
    intro s
    induction s using Finset.induction_on with
    | empty => left; exact ⟨by rw [Finset.fold_empty, cBot_eq], rfl⟩
    | insert i s hi ih =>
      right
      rw [Finset.fold_insert hi]
      rcases ih with ⟨ih, -⟩ | ih
      · rw [ih, max_eq_left bot_le]; exact h i
      · exact (h i).max ih
  rcases key Finset.univ with ⟨-, h0⟩ | h1
  · exact absurd h0 Finset.univ_nonempty.ne_empty
  · exact h1

/-- The sum of a row's softmax weights is a positive real number when queries and keys are real. -/
theorem weights_sum {q k : Fin 2048 → Fin 1024 → EReal} (hq : ∀ r c, IsReal (q r c)) (hk : ∀ r c, IsReal (k r c)) (h : Fin 16) (r : Fin 2048) :
    ∃ l : ℝ, 0 < l ∧ ∑ t, weight q k h r t = (l : EReal) := by
  have hs : ∀ t, IsReal (score q k h r t) := fun t => IsReal.sum _ fun d => (hq r _).mul (hk t _)
  have hm : IsReal (Finset.univ.fold max cBot (score q k h r)) := fold_max_real _ hs
  have hw : ∀ t, ∃ w : ℝ, 0 < w ∧ weight q k h r t = (w : EReal) := by
    intro t
    obtain ⟨d, hd⟩ := (hs t).sub hm
    exact ⟨Real.exp d, Real.exp_pos d, by rw [weight, hd, Ideal.exp_coe]⟩
  choose w hw0 hw using hw
  refine ⟨∑ t, w t, Finset.sum_pos (fun t _ => hw0 t) Finset.univ_nonempty, ?_⟩
  rw [Finset.sum_congr rfl fun t _ => hw t]
  exact sum_coe _ w

/-- With real queries and keys it does not matter whether the softmax divides before or after the average, whatever the values are. -/
theorem attendLate_eq {q k : Fin 2048 → Fin 1024 → EReal} (hq : ∀ r c, IsReal (q r c)) (hk : ∀ r c, IsReal (k r c))
    (v : Fin 2048 → Fin 1024 → EReal) : attendLate q k v = attend q k v := by
  funext r c
  obtain ⟨l, hl, h⟩ := weights_sum hq hk (headOf c) r
  unfold attendLate attend
  rw [h, div_real hl, mul_comm, real_mul_sum _ _ (inv_nonneg.2 hl.le)]
  refine Finset.sum_congr rfl fun t _ => ?_
  rw [div_real hl, ← mul_assoc, mul_comm ((l⁻¹ : ℝ) : EReal)]

/-- Nor where the factor two of the distance stands. -/
theorem distLate_eq (f : Fin 256 → EReal) (cb : Fin 128 → Fin 256 → EReal) : distLate f cb = dist f cb := by
  funext k
  unfold distLate dist
  rw [cTwo_eq, real_mul_sum _ _ (by norm_num : (0 : ℝ) ≤ 2)]
  simp only [mul_assoc]

/-- The normalised row, before gain and offset, is real whatever the row is. -/
theorem normalised_real (y : Fin 1024 → EReal) (c : Fin 1024) : IsReal (Ideal.div (y c - mean y) (Ideal.sqrt (variance y + cEps))) := by
  obtain ⟨e, he, hE⟩ := cEps_eq
  have hterm : ∀ k, 0 ≤ (y k - mean y) * (y k - mean y) := fun k => mul_self_nonneg' _
  by_cases hS : ∑ k, (y k - mean y) * (y k - mean y) = ⊤
  · have hv : variance y = ⊤ := by
      rw [variance, hS, cN_eq, div_real (by norm_num)]
      exact EReal.top_mul_coe_of_pos (by norm_num)
    refine ⟨0, ?_⟩
    rw [hv, hE, EReal.top_add_coe]
    simp [Ideal.div]
  · have hd : IsReal (y c - mean y) := by
      have hle : (y c - mean y) * (y c - mean y) ≤ ∑ k, (y k - mean y) * (y k - mean y) :=
        Finset.single_le_sum (fun k _ => hterm k) (Finset.mem_univ c)
      refine isReal_of_ne ?_ ?_
      · intro h
        rw [h, EReal.top_mul_top] at hle
        exact hS (top_le_iff.1 hle)
      · intro h
        rw [h, EReal.bot_mul_bot] at hle
        exact hS (top_le_iff.1 hle)
    have hS0 : 0 ≤ ∑ k, (y k - mean y) * (y k - mean y) := Finset.sum_nonneg fun k _ => hterm k
    obtain ⟨s, hs⟩ := isReal_of_ne hS (fun h => by rw [h] at hS0; simp at hS0)
    have hs0 : 0 ≤ s := by rw [hs] at hS0; exact_mod_cast hS0
    have hv : variance y + cEps = ((s * (1024 : ℝ)⁻¹ + e : ℝ) : EReal) := by
      rw [variance, hs, cN_eq, div_real (by norm_num), hE, EReal.coe_add, EReal.coe_mul]
    have hp : 0 < s * (1024 : ℝ)⁻¹ + e := by positivity
    rw [hv, Ideal.sqrt_coe, if_neg hp.not_gt, div_real (Real.sqrt_pos.2 hp)]
    exact hd.mul ⟨_, rfl⟩
/-- So normalisation with real gain and offset is real, whatever the row is. -/
theorem layerNorm_real (y : Fin 1024 → EReal) {g b : Fin 1024 → EReal} (hg : ∀ c, IsReal (g c)) (hb : ∀ c, IsReal (b c)) (c : Fin 1024) :
    IsReal (layerNorm y g b c) := ((normalised_real y c).mul (hg c)).add (hb c)

/-- The straight-through sum gives the code back, at a real projection. -/
theorem through_eq {f : EReal} (hf : IsReal f) (q : EReal) : f + (q - f) = q := by
  obtain ⟨r, rfl⟩ := hf
  induction q with
  | bot => simp
  | top => simp
  | coe s => norm_cast; ring

/-- The inputs on which the two orders agree: those that make scores and projections real. -/
structure Params.Real (P : Params) : Prop where
  x : ∀ r c, IsReal (P.x r c)
  Wq : ∀ e c, IsReal (P.Wq e c)
  bq : ∀ c, IsReal (P.bq c)
  Wk : ∀ e c, IsReal (P.Wk e c)
  bk : ∀ c, IsReal (P.bk c)
  g1 : ∀ c, IsReal (P.g1 c)
  o1 : ∀ c, IsReal (P.o1 c)
  Wtovq : ∀ e p, IsReal (P.Wtovq e p)

namespace Params
variable {P : Params}

theorem x1_eq (h : P.Real) : P.x1' = P.x1 := by
  have hq : ∀ r c, IsReal (P.q r c) := fun r c => (dense_real (h.x r) h.Wq h.bq c).mul cEighth_real
  have hk : ∀ r c, IsReal (P.k r c) := fun r c => dense_real (h.x r) h.Wk h.bk c
  unfold x1' x1
  rw [attendLate_eq hq hk]
theorem f_eq (h : P.Real) : P.f' = P.f := by
  unfold f' f
  rw [x1_eq h]
theorem code_eq (h : P.Real) : P.code' = P.code := by
  unfold code' code
  rw [f_eq h]
  simp only [distLate_eq]
theorem f_real (h : P.Real) (r : Fin 2048) (p : Fin 256) : IsReal (P.f r p) := by
  have hx : ∀ e, IsReal (P.x1 r e) := fun e => layerNorm_real _ h.g1 h.o1 e
  exact IsReal.sum Finset.univ (g := fun e => P.x1 r e * P.Wtovq e p) fun e => (hx e).mul (h.Wtovq e p)

/-- The layer's first result is the same in both orders, -/
theorem x3_eq (h : P.Real) : P.x3' = P.x3 := by
  funext r
  unfold x3' x3 x2' x2
  rw [x1_eq h, code_eq h]
  have : (fun p => P.f r p + (P.code r p - P.f r p)) = P.code r := funext fun p => through_eq (f_real h r p) _
  rw [this]
/-- and so is its second. -/
theorem loss_eq (h : P.Real) : P.loss' = P.loss := by
  unfold loss' loss
  rw [code_eq h, f_eq h]
end Params

end Cert.Proof
-- ==== Proof.Nearest.lean ====
/- The nearest code, in the two spellings the programs use: a fold of pairs, and the least code number among those at the least distance. -/
module

public import proofs.«01_k».proof.Proof.Layer
public import Idealize.ShloMosaic.Lib.Pointwise
public import Idealize.ShloMosaic.Lib.ValueIdx
public import Idealize.ShloMosaic.PureOps.Ideal.Laws
public import Idealize.ShloMosaic.PureOps.Reduce
@[expose] public section
set_option maxRecDepth 16384
noncomputable section
namespace Cert.Proof
open Idealize.ShloMosaic

/-- The pattern of plus infinity is the greatest value. -/
theorem cTop_eq : Ideal.ofBits .f32 2139095040#32 = (⊤ : EReal) := by simp [Ideal.ofBits, Ideal.ieee]

/-- The least value of a row of distances, as a fold. -/
theorem fold_min_eq (d : Fin 128 → EReal) : Finset.univ.fold min (Ideal.ofBits .f32 2139095040#32) d = d (nearest d) := by
  rw [cTop_eq]
  refine le_antisymm ((Finset.fold_min_le _).2 (.inr ⟨_, Finset.mem_univ _, le_rfl⟩)) ?_
  exact Finset.le_fold_min _ |>.2 ⟨le_top, fun k _ => nearest_le d k⟩

/-- Code numbers as signed words compare as numbers. -/
theorem toInt_ofNat_small (n : Nat) (h : n ≤ 128) : (BitVec.ofNat 32 n).toInt = n := by
  rw [BitVec.toInt_eq_toNat_of_lt] <;> simp only [BitVec.toNat_ofNat] <;> omega

/-- A fold by the signed minimum is below its start and every entry, and is one of them. -/
theorem fold_minsi_spec (i : BitVec 32) (f : Fin 128 → BitVec 32) (s : Finset (Fin 128)) :
    (s.fold IntOp.minsi i f = i ∨ ∃ k ∈ s, s.fold IntOp.minsi i f = f k) ∧ (∀ k ∈ s, (s.fold IntOp.minsi i f).toInt ≤ (f k).toInt) := by
  induction s using Finset.induction_on with
  | empty => simp
  | insert a s ha ih =>
    rw [Finset.fold_insert ha]
    obtain ⟨h1, h2⟩ := ih
    generalize s.fold IntOp.minsi i f = w at h1 h2
    by_cases h : (f a).slt w
    · have hm : IntOp.minsi (f a) w = f a := if_pos h
      rw [hm]
      refine ⟨.inr ⟨a, Finset.mem_insert_self a s, rfl⟩, fun k hk => ?_⟩
      rcases Finset.mem_insert.1 hk with rfl | hk
      · exact le_rfl
      · exact le_trans (le_of_lt (BitVec.slt_iff_toInt_lt.1 h)) (h2 k hk)
    · have hm : IntOp.minsi (f a) w = w := if_neg h
      rw [hm]
      refine ⟨h1.imp_right fun ⟨k, hk, e⟩ => ⟨k, Finset.mem_insert_of_mem hk, e⟩, fun k hk => ?_⟩
      rcases Finset.mem_insert.1 hk with rfl | hk
      · exact not_lt.1 fun hh => h (BitVec.slt_iff_toInt_lt.2 hh)
      · exact h2 k hk

/-- The least code number among the codes at the least distance is the nearest code. -/
theorem fold_minsi_eq (d : Fin 128 → EReal) :
    (Finset.fold IntOp.minsi (2147483647#32) (fun k : Fin 128 => if d k ≤ d (nearest d) then BitVec.ofNat 32 k.val else 128#32) Finset.univ)
      = BitVec.ofNat 32 (nearest d).val := by
  obtain ⟨h1, h2⟩ := fold_minsi_spec (2147483647#32) (fun k : Fin 128 => if d k ≤ d (nearest d) then BitVec.ofNat 32 k.val else 128#32) Finset.univ
  generalize Finset.fold IntOp.minsi (2147483647#32) (fun k : Fin 128 => if d k ≤ d (nearest d) then BitVec.ofNat 32 k.val else 128#32) Finset.univ = w at h1 h2
  have hn := h2 (nearest d) (Finset.mem_univ _)
  simp only [le_refl, if_true] at hn
  rw [toInt_ofNat_small _ (by omega)] at hn
  have hlt : (nearest d).val < 128 := (nearest d).isLt
  rcases h1 with rfl | ⟨k, -, rfl⟩
  · have : (2147483647#32).toInt = 2147483647 := by decide
    omega
  · by_cases hk : d k ≤ d (nearest d)
    · simp only [if_pos hk] at hn ⊢
      rw [toInt_ofNat_small _ (by omega)] at hn
      have := nearest_first d k fun j => hk.trans (nearest_le d j)
      have : k = nearest d := le_antisymm (by exact_mod_cast hn) this
      rw [this]
    · simp only [if_neg hk] at hn
      have : (128#32).toInt = 128 := by decide
      omega

/-- The order of pairs of a value and a word: by value, then by word. -/
def Before (p q : EReal × BitVec 32) : Prop := p.1 < q.1 ∨ (p.1 = q.1 ∧ p.2.toInt ≤ q.2.toInt)
theorem before_refl (p : EReal × BitVec 32) : Before p p := .inr ⟨rfl, le_rfl⟩
theorem before_trans {p q r : EReal × BitVec 32} (h : Before p q) (h' : Before q r) : Before p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- A fold that keeps the earlier of two pairs ends at one of them which comes before all. -/
theorem foldl_before (R : EReal × BitVec 32 → EReal × BitVec 32 → EReal × BitVec 32)
    (hR : ∀ a b, (R a b = a ∧ Before a b) ∨ (R a b = b ∧ Before b a)) (L : List (EReal × BitVec 32)) (i : EReal × BitVec 32) :
    (L.foldl R i = i ∨ L.foldl R i ∈ L) ∧ Before (L.foldl R i) i ∧ ∀ p ∈ L, Before (L.foldl R i) p := by
  induction L generalizing i with
  | nil => exact ⟨.inl rfl, before_refl _, fun p hp => absurd hp List.not_mem_nil⟩
  | cons a L ih =>
    rw [List.foldl_cons]
    obtain ⟨h1, h2, h3⟩ := ih (R i a)
    rcases hR i a with ⟨e, hb⟩ | ⟨e, hb⟩ <;> rw [e] at h1 h2 h3 ⊢
    · refine ⟨h1.imp_right fun h => List.mem_cons_of_mem _ h, h2, fun p hp => ?_⟩
      rcases List.mem_cons.1 hp with rfl | hp
      · exact before_trans h2 hb
      · exact h3 p hp
    · refine ⟨.inr (h1.elim (fun h => List.mem_cons.2 (.inl h)) fun h => List.mem_cons_of_mem _ h), before_trans h2 hb, fun p hp => ?_⟩
      rcases List.mem_cons.1 hp with rfl | hp
      · exact h2
      · exact h3 p hp

/-- Over the pairs of a distance and its code number such a fold, begun at plus infinity and zero, ends at the nearest code. -/
theorem foldl_nearest (d : Fin 128 → EReal) (R : EReal × BitVec 32 → EReal × BitVec 32 → EReal × BitVec 32)
    (hR : ∀ a b, (R a b = a ∧ Before a b) ∨ (R a b = b ∧ Before b a)) (L : List (EReal × BitVec 32))
    (hL : ∀ p ∈ L, ∃ k : Fin 128, p = (d k, BitVec.ofNat 32 k.val)) (hk : ∀ k : Fin 128, (d k, BitVec.ofNat 32 k.val) ∈ L) :
    (L.foldl R (⊤, 0#32)).2 = BitVec.ofNat 32 (nearest d).val := by
  obtain ⟨h1, h2, h3⟩ := foldl_before R hR L (⊤, 0#32)
  generalize L.foldl R (⊤, 0#32) = p at h1 h2 h3
  rcases h1 with rfl | h1
  · have : ∀ k, d k = ⊤ := fun k => by
      rcases h3 _ (hk k) with h | ⟨h, -⟩
      · exact absurd h (not_top_lt)
      · exact h.symm
    have h0 := nearest_first d 0 fun j => by rw [this, this]
    have : nearest d = 0 := le_antisymm h0 (Fin.zero_le _)
    rw [this]; rfl
  · obtain ⟨k, rfl⟩ := hL p h1
    have hm : ∀ j, d k ≤ d j := fun j => (h3 _ (hk j)).elim le_of_lt fun h => le_of_eq h.1
    have hf := nearest_first d k hm
    have : k ≤ nearest d := by
      rcases h3 _ (hk (nearest d)) with h | ⟨-, h⟩
      · exact absurd h (not_lt.2 (nearest_le d k))
      · simp only [toInt_ofNat_small k.val (by omega), toInt_ofNat_small (nearest d).val (by omega)] at h
        exact_mod_cast h
    rw [le_antisymm this hf]

/-- The one-hot row times the codebook is the code. -/
theorem onehot_sum (n : Fin 128) (cb : Fin 128 → EReal) :
    ∑ k : Fin 128, FloatOps.sitofp (F := Ideal) FTy.f32 (BitVec.setWidth 32 (IntOp.cmpi CmpIPredicate.eq (BitVec.ofNat 32 k.val) (BitVec.ofNat 32 n.val))) * cb k = cb n := by
  rw [Finset.sum_eq_single n]
  · have : (IntOp.cmpi CmpIPredicate.eq (BitVec.ofNat 32 n.val) (BitVec.ofNat 32 n.val)) = 1#1 := by simp [IntOp.cmpi]
    rw [this]
    show ((((BitVec.setWidth 32 (1#1)).toInt : ℝ)) : EReal) * _ = _
    simp
  · intro k _ hk
    have : (IntOp.cmpi CmpIPredicate.eq (BitVec.ofNat 32 k.val) (BitVec.ofNat 32 n.val)) = 0#1 := by
      have hne : BitVec.ofNat 32 k.val ≠ BitVec.ofNat 32 n.val := by
        intro h
        have h' := congrArg BitVec.toNat h
        simp only [BitVec.toNat_ofNat] at h'
        exact hk (Fin.ext (by omega))
      show BitVec.ofBool (BitVec.ofNat 32 k.val == BitVec.ofNat 32 n.val) = 0#1
      rw [beq_eq_false_iff_ne.2 hne]; rfl
    rw [this]
    show ((((BitVec.setWidth 32 (0#1)).toInt : ℝ)) : EReal) * _ = _
    simp
  · intro h; exact absurd (Finset.mem_univ _) h

end Cert.Proof
-- ==== Proof.Value.Hosts.lean ====
/- What the host operations between the launches leave: each array the launches read, from the arguments. -/
module

public import proofs.«01_k».proof.Proof.Layer
public import proofs.«01_k».proof.Proof.Kernel.Frame
public import Idealize.ShloMosaic.Lib.Pointwise
public import Idealize.ShloMosaic.Lib.Claim
public import Idealize.ShloMosaic.Lib.ValueIdx
public import Idealize.ShloMosaic.Lib.Tactic.CleanTypes
public import Idealize.ShloMosaic.PureOps.Ideal.Laws
@[expose] public section
set_option maxRecDepth 16384
noncomputable section
namespace Cert.Proof
open Cert.KernelIdeal Cert.KernelIdeal.Gen Idealize.ShloMosaic Idealize.ShloMosaic.TcCoe Idealize.SL.Sem

section
variable (W : Valuation τ sig (Elt Ideal))

/-- Before the first launch: the input's rows, the weights and the offsets of queries, keys and values. -/
theorem hosts0 : (∀ (r : Fin 2048) (k : Fin 1024), (StableHlo.after hostOps0 W (Proc.devRef .tc main_v0) (ix2 r k) : EReal) = W (Proc.devRef .tc main_arg0) (ix3 r 0 k))
    ∧ (∀ e k : Fin 1024, (StableHlo.after hostOps0 W (Proc.devRef .tc main_v1) (ix2 e k) : EReal) = W (Proc.devRef .tc main_arg2) (ix2 e k))
    ∧ (∀ e k : Fin 1024, (StableHlo.after hostOps0 W (Proc.devRef .tc main_v2) (ix2 e k) : EReal) = W (Proc.devRef .tc main_arg4) (ix2 e k))
    ∧ (∀ e k : Fin 1024, (StableHlo.after hostOps0 W (Proc.devRef .tc main_v3) (ix2 e k) : EReal) = W (Proc.devRef .tc main_arg6) (ix2 e k))
    ∧ (∀ k : Fin 1024, (StableHlo.after hostOps0 W (Proc.devRef .tc main_v4) (ix2 0 k) : EReal) = W (Proc.devRef .tc main_arg3) (ix1 k))
    ∧ (∀ k : Fin 1024, (StableHlo.after hostOps0 W (Proc.devRef .tc main_v5) (ix2 0 k) : EReal) = W (Proc.devRef .tc main_arg5) (ix1 k))
    ∧ (∀ k : Fin 1024, (StableHlo.after hostOps0 W (Proc.devRef .tc main_v6) (ix2 0 k) : EReal) = W (Proc.devRef .tc main_arg7) (ix1 k)) := by
  refine ⟨?_, ?_, ?_, ?_, ?_, ?_, ?_⟩ <;> intros <;> after_results_simp <;> pointwise

/-- Before the third: the mask as a number, and the weights that the quantiser takes. -/
theorem hosts2 : (∀ r : Fin 2048, (StableHlo.after hostOps2 W (Proc.devRef .tc main_v10) (ix2 r 0) : EReal) = FloatOps.uitofp (F := Ideal) .f32 (W (Proc.devRef .tc main_arg1) (ix2 0 r)))
    ∧ (∀ e k : Fin 1024, (StableHlo.after hostOps2 W (Proc.devRef .tc main_v11) (ix2 e k) : EReal) = W (Proc.devRef .tc main_arg8) (ix2 e k))
    ∧ (∀ k : Fin 1024, (StableHlo.after hostOps2 W (Proc.devRef .tc main_v12) (ix2 0 k) : EReal) = W (Proc.devRef .tc main_arg9) (ix1 k))
    ∧ (∀ k : Fin 1024, (StableHlo.after hostOps2 W (Proc.devRef .tc main_v13) (ix2 0 k) : EReal) = W (Proc.devRef .tc main_arg10) (ix1 k))
    ∧ (∀ k : Fin 1024, (StableHlo.after hostOps2 W (Proc.devRef .tc main_v14) (ix2 0 k) : EReal) = W (Proc.devRef .tc main_arg11) (ix1 k))
    ∧ (∀ (p : Fin 256) (k : Fin 1024), (StableHlo.after hostOps2 W (Proc.devRef .tc main_v15) (ix2 p k) : EReal) = W (Proc.devRef .tc main_arg14) (ix2 p k))
    ∧ (∀ k : Fin 1024, (StableHlo.after hostOps2 W (Proc.devRef .tc main_v16) (ix2 0 k) : EReal) = W (Proc.devRef .tc main_arg15) (ix1 k))
    ∧ (∀ k : Fin 1024, (StableHlo.after hostOps2 W (Proc.devRef .tc main_v17) (ix2 0 k) : EReal) = W (Proc.devRef .tc main_arg16) (ix1 k)) := by
  refine ⟨?_, ?_, ?_, ?_, ?_, ?_, ?_, ?_⟩ <;> intros <;> after_results_simp <;> pointwise

/-- Before the fourth: the loss from its two sums, and the weights of the feed-forward network. -/
theorem hosts3 : ((StableHlo.after hostOps3 W (Proc.devRef .tc main_v23) ix0 : EReal)
      = Ideal.div (cOne * (W (Proc.devRef .tc main_v18_1) (ix2 0 0) : EReal)) (max (W (Proc.devRef .tc main_v18_2) (ix2 0 0) : EReal) cOne))
    ∧ (∀ (e : Fin 1024) (j : Fin 4096), (StableHlo.after hostOps3 W (Proc.devRef .tc main_v24) (ix2 e j) : EReal) = W (Proc.devRef .tc main_arg17) (ix2 e j))
    ∧ (∀ j : Fin 4096, (StableHlo.after hostOps3 W (Proc.devRef .tc main_v25) (ix2 0 j) : EReal) = W (Proc.devRef .tc main_arg18) (ix1 j))
    ∧ (∀ (j : Fin 4096) (k : Fin 1024), (StableHlo.after hostOps3 W (Proc.devRef .tc main_v26) (ix2 j k) : EReal) = W (Proc.devRef .tc main_arg19) (ix2 j k))
    ∧ (∀ k : Fin 1024, (StableHlo.after hostOps3 W (Proc.devRef .tc main_v27) (ix2 0 k) : EReal) = W (Proc.devRef .tc main_arg20) (ix1 k))
    ∧ (∀ k : Fin 1024, (StableHlo.after hostOps3 W (Proc.devRef .tc main_v28) (ix2 0 k) : EReal) = W (Proc.devRef .tc main_arg21) (ix1 k))
    ∧ (∀ k : Fin 1024, (StableHlo.after hostOps3 W (Proc.devRef .tc main_v29) (ix2 0 k) : EReal) = W (Proc.devRef .tc main_arg22) (ix1 k)) := by
  refine ⟨?_, ?_, ?_, ?_, ?_, ?_, ?_⟩ <;> intros <;> after_results_simp <;> pointwise

/-- After the fourth the result is reshaped. -/
theorem hosts4 (r : Fin 2048) (k : Fin 1024) : (StableHlo.after hostOps4 W (Proc.devRef .tc main_v31) (ix3 r 0 k) : EReal) = W (Proc.devRef .tc main_v30) (ix2 r k) := by
  after_results_simp; pointwise
end

end Cert.Proof
-- ==== Proof.Value.Qkv.lean ====
/- What the first kernel leaves: the scaled queries, the keys and the values side by side. -/
module

public import proofs.«01_k».proof.Proof.Layer
public import proofs.«01_k».proof.Proof.Kernel.Frame
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.ValueIdx
public import Idealize.ShloMosaic.Lib.Tactic.CleanTypes
public import Idealize.ShloMosaic.PureOps.Ideal.Laws
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-- One row of the array of queries, keys and values, 1024 columns of each. -/
def qkvRow (x : Fin 1024 → EReal) (Wq Wk Wv : Fin 1024 → Fin 1024 → EReal) (bq bk bv : Fin 1024 → EReal) (j : Fin 3072) : EReal :=
  if h : j.val < 1024 then dense x Wq bq ⟨j, h⟩ * cEighth
  else if h : j.val < 2048 then dense x Wk bk ⟨j - 1024, by omega⟩ else dense x Wv bv ⟨j - 2048, by omega⟩

set_option maxHeartbeats 1000000 in
/-- What one grid point stores, at an index. -/
theorem qkv_block (x0 : Vec Ideal S256x1024 .f32) (x1 x2 x3 : Vec Ideal S1024x1024 .bf16) (x4 x5 x6 : Vec Ideal S1x1024 .f32) (y : S256x3072.Idx) :
    out0_7 x0 x1 x2 x3 x4 x5 x6 y = qkvRow (fun e => x0 (ix2 (y 0) e)) (fun e k => x1 (ix2 e k)) (fun e k => x2 (ix2 e k)) (fun e k => x3 (ix2 e k))
      (fun k => x4 (ix2 0 k)) (fun k => x5 (ix2 0 k)) (fun k => x6 (ix2 0 k)) (y 1) := by
  unfold out0_7
  refine View.canon_apply_of_pieces (Val := Elt Ideal) (fun y : S256x3072.Idx => qkvRow (fun e => x0 (ix2 (y 0) e)) (fun e k => x1 (ix2 e k)) (fun e k => x2 (ix2 e k))
    (fun e k => x3 (ix2 e k)) (fun k => x4 (ix2 0 k)) (fun k => x5 (ix2 0 k)) (fun k => x6 (ix2 0 k)) (y 1)) _ ?_ y (cover0_7 ..)
  simp only [List.forall_mem_cons]
  refine ⟨fun x => ?_, fun x => ?_, fun x => ?_, fun p hp => absurd hp List.not_mem_nil⟩
  all_goals
    obtain ⟨r, k, rfl⟩ : ∃ (r : Fin 256) (k : Fin 1024), x = ix2 r k := ⟨x 0, x 1, eq_ix2 x⟩
    unfold_payloads
    pointwise
  · have hr : (r0_5.emb (ix2 r k) : S256x3072.Idx) = ix2 r ⟨2048 + k, by omega⟩ := by blk_ext []
    rw [hr]
    simp only [qkvRow, dense]
    rw [dif_neg (by show ¬ 2048 + k.val < 1024; omega), dif_neg (by show ¬ 2048 + k.val < 2048; omega)]
    have : (⟨2048 + k.val - 2048, by omega⟩ : Fin 1024) = k := Fin.ext (by simp)
    simp [this]
  · have hr : (r0_4.emb (ix2 r k) : S256x3072.Idx) = ix2 r ⟨1024 + k, by omega⟩ := by blk_ext []
    rw [hr]
    simp only [qkvRow, dense]
    rw [dif_neg (by show ¬ 1024 + k.val < 1024; omega), dif_pos (by show 1024 + k.val < 2048; omega)]
    have : (⟨1024 + k.val - 1024, by omega⟩ : Fin 1024) = k := Fin.ext (by simp)
    simp [this]
  · have hr : (r0_3.emb (ix2 r k) : S256x3072.Idx) = ix2 r ⟨k, by omega⟩ := by blk_ext []
    rw [hr]
    simp only [qkvRow, dense]
    rw [dif_pos (by show k.val < 1024; omega)]
    rfl

/-- The tile of the input and of the result moves with the grid point; the weights and offsets stay whole. -/
theorem index0 : ∀ t : Fin cfg0.N, (win0_0.index t = ![t.val, 0] ∧ win0_7.index t = ![t.val, 0]) ∧ win0_1.index t = ![0, 0] ∧ win0_2.index t = ![0, 0]
    ∧ win0_3.index t = ![0, 0] ∧ win0_4.index t = ![0, 0] ∧ win0_5.index t = ![0, 0] ∧ win0_6.index t = ![0, 0] := by decide +kernel

set_option maxHeartbeats 4000000 in
/-- The array after the launch, at an index, from the arrays before it. -/
theorem qkv_array (y : S2048x3072.Idx) : (show S2048x3072.Idx → EReal from (dat0 V c).arrAt 7 cfg0.N) y = qkvRow (fun e => V c main_v0 (ix2 (y 0) e))
    (fun e k => V c main_v1 (ix2 e k)) (fun e k => V c main_v2 (ix2 e k)) (fun e k => V c main_v3 (ix2 e k))
      (fun k => V c main_v4 (ix2 0 k)) (fun k => V c main_v5 (ix2 0 k)) (fun k => V c main_v6 (ix2 0 k)) (y 1) := by
  refine congrFun ((dat0 V c).arrAt_eq_of_covers 7 (fun y : S2048x3072.Idx => qkvRow (fun e => V c main_v0 (ix2 (y 0) e))
    (fun e k => V c main_v1 (ix2 e k)) (fun e k => V c main_v2 (ix2 e k)) (fun e k => V c main_v3 (ix2 e k))
      (fun k => V c main_v4 (ix2 0 k)) (fun k => V c main_v5 (ix2 0 k)) (fun k => V c main_v6 (ix2 0 k)) (y 1)) (by decide +kernel) fun t hf y => ?_) y
  blk_simp
  rw [after0_7]
  obtain ⟨r, k, rfl⟩ : ∃ (r : Fin 256) (k : Fin 3072), y = ix2 r k := ⟨y 0, y 1, eq_ix2 y⟩
  rw [qkv_block]
  obtain ⟨⟨i0, i7⟩, i1, i2, i3, i4, i5, i6⟩ := index0 t
  have hi : (((win0_7.blk t).view.emb (ix2 r k)) : S2048x3072.Idx) = ix2 (⟨t * 256 + r, by have : t.val < 8 := t.isLt; omega⟩ : Fin 2048) k := by
    blk_ext [i7]
  rw [hi]
  have h0 : ∀ k, iblk0 V c 0 t (ix2 r k) = V c main_v0 (ix2 (⟨t * 256 + r, by have : t.val < 8 := t.isLt; omega⟩ : Fin 2048) k) := by
    intro k; blk_ext [iblk0, i0]
  have h1 : ∀ e k, iblk0 V c 1 t (ix2 e k) = V c main_v1 (ix2 e k) := by intro e k; blk_ext [iblk0, i1]
  have h2 : ∀ e k, iblk0 V c 2 t (ix2 e k) = V c main_v2 (ix2 e k) := by intro e k; blk_ext [iblk0, i2]
  have h3 : ∀ e k, iblk0 V c 3 t (ix2 e k) = V c main_v3 (ix2 e k) := by intro e k; blk_ext [iblk0, i3]
  have h4 : ∀ k, iblk0 V c 4 t (ix2 0 k) = V c main_v4 (ix2 0 k) := by intro k; blk_ext [iblk0, i4]
  have h5 : ∀ k, iblk0 V c 5 t (ix2 0 k) = V c main_v5 (ix2 0 k) := by intro k; blk_ext [iblk0, i5]
  have h6 : ∀ k, iblk0 V c 6 t (ix2 0 k) = V c main_v6 (ix2 0 k) := by intro k; blk_ext [iblk0, i6]
  show qkvRow _ _ _ _ _ _ _ _ = qkvRow _ _ _ _ _ _ _ _
  congr 1
  · funext e; exact h0 e
  · funext e k; exact h1 e k
  · funext e k; exact h2 e k
  · funext e k; exact h3 e k
  · funext k; exact h4 k
  · funext k; exact h5 k
  · funext k; exact h6 k

end Cert.Proof
-- ==== Proof.Value.Attention.lean ====
module

public import proofs.«01_k».proof.Proof.Kernel.Frame
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.ValueIdx
public import Idealize.ShloMosaic.PureOps.Ideal.Laws
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-! # The body of the attention call, one head at a time: scores, softmax and the average of the values -/

/-- The score of query row `r` against key `t` in head `h`. -/
def tileScore (q : S256x1024.Idx → EReal) (K : S16x2048x64.Idx → EReal) (h : Fin 16) (r : Fin 256) (t : Fin 2048) : EReal :=
  ∑ e : Fin 64, q (ix2 r ⟨h.val * 64 + e.val, by omega⟩) * K (ix3 h t e)

/-- What attention gives at row `r` and column `d` of head `h`, of a tile `q` of queries and of the keys and values by heads. -/
def headOut (q : S256x1024.Idx → EReal) (K W : S16x2048x64.Idx → EReal) (h : Fin 16) (r : Fin 256) (d : Fin 64) : EReal :=
  Ideal.div
    (∑ t, Ideal.exp (tileScore q K h r t - Finset.univ.fold max (Ideal.ofBits .f32 0xFF800000#32) (fun t => tileScore q K h r t)) * W (ix3 h t d))
    (∑ t, Ideal.exp (tileScore q K h r t - Finset.univ.fold max (Ideal.ofBits .f32 0xFF800000#32) (fun t => tileScore q K h r t)))

def tileOut (q : S256x1024.Idx → EReal) (K W : S16x2048x64.Idx → EReal) (y : S256x1024.Idx) : EReal :=
  headOut q K W ⟨(y 1).val / 64, by have : (y 1).val < 1024 := (y 1).isLt; omega⟩ (y 0) ⟨(y 1).val % 64, by omega⟩

theorem piece_eq (q : Vec Ideal S256x1024 .bf16) (K W : Vec Ideal S16x2048x64 .bf16) (h : Fin 16) (off : Fin 2 → Nat) (inb : ∀ a, off a + S256x64.size a ≤ S256x1024.size a)
    (hoff : off = ![0, h.val * 64]) (pay : FVec Ideal S256x64 .bf16) (hp : ∀ r d, pay (ix2 r d) = headOut q K W h r d) (x : (Rect.unit (s := S256x1024) off S256x64.size inb).shape.Idx) :
    pay x = tileOut q K W ((Rect.unit (s := S256x1024) off S256x64.size inb).emb x) := by
  subst hoff
  obtain ⟨r, d, rfl⟩ : ∃ (r : Fin 256) (d : Fin 64), x = ix2 r d := ⟨x 0, x 1, eq_ix2 x⟩
  refine (hp r d).trans ?_
  show headOut q K W h r d = headOut q K W _ _ _
  congr 1
  · refine Fin.ext ?_
    show h.val = (h.val * 64 + 1 * d.val) / 64
    omega
  · refine Fin.ext ?_
    show r.val = 0 + 1 * r.val
    omega
  · refine Fin.ext ?_
    show d.val = (h.val * 64 + 1 * d.val) % 64
    omega

/-- At a later point the tile is attention over the copies of the keys and of the values. -/
theorem out_later (t : Fin cfg1.N) (h : ¬ t.val % 8 = 0) (y : S256x1024.Idx) : outsAt1 V c t y
    = tileOut (iblk1 V c 0 t) (keys1 V c) (vals1 V c) y := by
  unfold outsAt1
  rw [dif_neg h]
  unfold out1_B_3
  rw [View.read_writes_junk_eq_canon]
  refine View.canon_apply_of_pieces _ _ ?_ y (cover1_B_3 ..)
  frame_open
  simp only [View.readAt_eq_ld, Memref.IsWhole.read_unread, List.forall_mem_cons, read_unread_whole]
  generalize keys1 V c = K
  generalize vals1 V c = W
  generalize iblk1 V c 0 t = q
  refine ⟨fun x => piece_eq q K W 15 _ _ rfl _ (fun r d => ?_) x,
    fun x => piece_eq q K W 14 _ _ rfl _ (fun r d => ?_) x,
    fun x => piece_eq q K W 13 _ _ rfl _ (fun r d => ?_) x,
    fun x => piece_eq q K W 12 _ _ rfl _ (fun r d => ?_) x,
    fun x => piece_eq q K W 11 _ _ rfl _ (fun r d => ?_) x,
    fun x => piece_eq q K W 10 _ _ rfl _ (fun r d => ?_) x,
    fun x => piece_eq q K W 9 _ _ rfl _ (fun r d => ?_) x,
    fun x => piece_eq q K W 8 _ _ rfl _ (fun r d => ?_) x,
    fun x => piece_eq q K W 7 _ _ rfl _ (fun r d => ?_) x,
    fun x => piece_eq q K W 6 _ _ rfl _ (fun r d => ?_) x,
    fun x => piece_eq q K W 5 _ _ rfl _ (fun r d => ?_) x,
    fun x => piece_eq q K W 4 _ _ rfl _ (fun r d => ?_) x,
    fun x => piece_eq q K W 3 _ _ rfl _ (fun r d => ?_) x,
    fun x => piece_eq q K W 2 _ _ rfl _ (fun r d => ?_) x,
    fun x => piece_eq q K W 1 _ _ rfl _ (fun r d => ?_) x,
    fun x => piece_eq q K W 0 _ _ rfl _ (fun r d => ?_) x, fun p hp => absurd hp List.not_mem_nil⟩
  case refine_16 =>
    unfold_payloads
    pointwise
    simp only [headOut, tileScore, Fin.isValue, Fin.coe_ofNat_eq_mod, Nat.zero_mod, zero_mul, zero_add]
  all_goals
    unfold_payloads
    pointwise
    rfl

/-- A matrix of 2048 rows, its columns grouped by heads. -/
def slabs (X : S2048x1024.Idx → EReal) : S16x2048x64.Idx → EReal := fun y =>
  X (ix2 (y 1) ⟨(y 0).val * 64 + (y 2).val, by have : (y 0).val < 16 := (y 0).isLt; have : (y 2).val < 64 := (y 2).isLt; omega⟩)

/-- What the copy stores for head `h` is its slab. -/
theorem slab_eq (X : S2048x1024.Idx → EReal) (h : Fin 16) (off : Fin 3 → Nat) (inb : ∀ a, off a + S1x2048x64.size a ≤ S16x2048x64.size a)
    (hoff : off = ![h.val, 0, 0]) (pay : FVec Ideal S1x2048x64 .bf16) (hp : ∀ t e, pay (ix3 0 t e) = X (ix2 t ⟨h.val * 64 + e.val, by omega⟩))
    (x : (Rect.unit (s := S16x2048x64) off S1x2048x64.size inb).shape.Idx) :
    pay x = slabs X ((Rect.unit (s := S16x2048x64) off S1x2048x64.size inb).emb x) := by
  subst hoff
  obtain ⟨z, t, e, rfl⟩ : ∃ (z : Fin 1) (t : Fin 2048) (e : Fin 64), x = ix3 z t e := ⟨x 0, x 1, x 2, eq_ix3 x⟩
  obtain rfl : z = 0 := Subsingleton.elim _ _
  refine (hp t e).trans ?_
  unfold slabs
  congr 2
  · refine Fin.ext ?_
    show t.val = 0 + 1 * t.val
    omega
  · refine Fin.ext ?_
    show h.val * 64 + e.val = (h.val + 1 * 0) * 64 + (0 + 1 * e.val)
    omega

theorem slabs_ix3 (X : S2048x1024.Idx → EReal) (h : Fin 16) (t : Fin 2048) (e : Fin 64) :
    slabs X (ix3 h t e) = X (ix2 t ⟨h.val * 64 + e.val, by omega⟩) := rfl

/-- The copy of the keys, by heads. -/
theorem keys_eq (y : S16x2048x64.Idx) : keys1 V c y = slabs (iblk1 V c 1 t₀1) y := by
  unfold keys1 sout1_A_0
  rw [View.read_writes_junk_eq_canon]
  refine View.canon_apply_of_pieces _ _ ?_ y (scover1_A_0 ..)
  frame_open
  simp only [View.readAt_eq_ld, Memref.IsWhole.read_unread, List.forall_mem_cons]
  generalize iblk1 V c 1 t₀1 = X
  refine ⟨fun x => slab_eq X 15 _ _ rfl _ (fun r d => ?_) x,
    fun x => slab_eq X 14 _ _ rfl _ (fun r d => ?_) x,
    fun x => slab_eq X 13 _ _ rfl _ (fun r d => ?_) x,
    fun x => slab_eq X 12 _ _ rfl _ (fun r d => ?_) x,
    fun x => slab_eq X 11 _ _ rfl _ (fun r d => ?_) x,
    fun x => slab_eq X 10 _ _ rfl _ (fun r d => ?_) x,
    fun x => slab_eq X 9 _ _ rfl _ (fun r d => ?_) x,
    fun x => slab_eq X 8 _ _ rfl _ (fun r d => ?_) x,
    fun x => slab_eq X 7 _ _ rfl _ (fun r d => ?_) x,
    fun x => slab_eq X 6 _ _ rfl _ (fun r d => ?_) x,
    fun x => slab_eq X 5 _ _ rfl _ (fun r d => ?_) x,
    fun x => slab_eq X 4 _ _ rfl _ (fun r d => ?_) x,
    fun x => slab_eq X 3 _ _ rfl _ (fun r d => ?_) x,
    fun x => slab_eq X 2 _ _ rfl _ (fun r d => ?_) x,
    fun x => slab_eq X 1 _ _ rfl _ (fun r d => ?_) x,
    fun x => slab_eq X 0 _ _ rfl _ (fun r d => ?_) x, fun p hp => absurd hp List.not_mem_nil⟩
  all_goals
    unfold_payloads
    pointwise

/-- The copy of the values, by heads. -/
theorem vals_eq (y : S16x2048x64.Idx) : vals1 V c y = slabs (iblk1 V c 2 t₀1) y := by
  unfold vals1 sout1_A_1
  rw [View.read_writes_junk_eq_canon]
  refine View.canon_apply_of_pieces _ _ ?_ y (scover1_A_1 ..)
  frame_open
  simp only [View.readAt_eq_ld, Memref.IsWhole.read_unread, List.forall_mem_cons]
  generalize iblk1 V c 2 t₀1 = X
  refine ⟨fun x => slab_eq X 15 _ _ rfl _ (fun r d => ?_) x,
    fun x => slab_eq X 14 _ _ rfl _ (fun r d => ?_) x,
    fun x => slab_eq X 13 _ _ rfl _ (fun r d => ?_) x,
    fun x => slab_eq X 12 _ _ rfl _ (fun r d => ?_) x,
    fun x => slab_eq X 11 _ _ rfl _ (fun r d => ?_) x,
    fun x => slab_eq X 10 _ _ rfl _ (fun r d => ?_) x,
    fun x => slab_eq X 9 _ _ rfl _ (fun r d => ?_) x,
    fun x => slab_eq X 8 _ _ rfl _ (fun r d => ?_) x,
    fun x => slab_eq X 7 _ _ rfl _ (fun r d => ?_) x,
    fun x => slab_eq X 6 _ _ rfl _ (fun r d => ?_) x,
    fun x => slab_eq X 5 _ _ rfl _ (fun r d => ?_) x,
    fun x => slab_eq X 4 _ _ rfl _ (fun r d => ?_) x,
    fun x => slab_eq X 3 _ _ rfl _ (fun r d => ?_) x,
    fun x => slab_eq X 2 _ _ rfl _ (fun r d => ?_) x,
    fun x => slab_eq X 1 _ _ rfl _ (fun r d => ?_) x,
    fun x => slab_eq X 0 _ _ rfl _ (fun r d => ?_) x, fun p hp => absurd hp List.not_mem_nil⟩
  all_goals
    unfold_payloads
    pointwise

/-- At the first point the tile is attention over the same copies, just stored. -/
theorem out_first (t : Fin cfg1.N) (h : t.val % 8 = 0) (y : S256x1024.Idx) : outsAt1 V c t y
    = tileOut (iblk1 V c 0 t) (slabs (iblk1 V c 1 t)) (slabs (iblk1 V c 2 t)) y := by
  unfold outsAt1
  rw [dif_pos h]
  unfold out1_A_3
  rw [View.read_writes_junk_eq_canon]
  refine View.canon_apply_of_pieces _ _ ?_ y (cover1_A_3 ..)
  frame_open
  simp (disch := decide) only [↓ View.readCov_skip, ↓ View.readCov_cons_toLoadRect, ↓ View.readCov_fill]
  simp only [View.readAt_eq_ld, Memref.IsWhole.read_unread, List.forall_mem_cons]
  generalize iblk1 V c 1 t = x1
  generalize iblk1 V c 2 t = x2
  generalize iblk1 V c 0 t = q
  refine ⟨fun x => piece_eq q (slabs x1) (slabs x2) 15 _ _ rfl _ (fun r d => ?_) x,
    fun x => piece_eq q (slabs x1) (slabs x2) 14 _ _ rfl _ (fun r d => ?_) x,
    fun x => piece_eq q (slabs x1) (slabs x2) 13 _ _ rfl _ (fun r d => ?_) x,
    fun x => piece_eq q (slabs x1) (slabs x2) 12 _ _ rfl _ (fun r d => ?_) x,
    fun x => piece_eq q (slabs x1) (slabs x2) 11 _ _ rfl _ (fun r d => ?_) x,
    fun x => piece_eq q (slabs x1) (slabs x2) 10 _ _ rfl _ (fun r d => ?_) x,
    fun x => piece_eq q (slabs x1) (slabs x2) 9 _ _ rfl _ (fun r d => ?_) x,
    fun x => piece_eq q (slabs x1) (slabs x2) 8 _ _ rfl _ (fun r d => ?_) x,
    fun x => piece_eq q (slabs x1) (slabs x2) 7 _ _ rfl _ (fun r d => ?_) x,
    fun x => piece_eq q (slabs x1) (slabs x2) 6 _ _ rfl _ (fun r d => ?_) x,
    fun x => piece_eq q (slabs x1) (slabs x2) 5 _ _ rfl _ (fun r d => ?_) x,
    fun x => piece_eq q (slabs x1) (slabs x2) 4 _ _ rfl _ (fun r d => ?_) x,
    fun x => piece_eq q (slabs x1) (slabs x2) 3 _ _ rfl _ (fun r d => ?_) x,
    fun x => piece_eq q (slabs x1) (slabs x2) 2 _ _ rfl _ (fun r d => ?_) x,
    fun x => piece_eq q (slabs x1) (slabs x2) 1 _ _ rfl _ (fun r d => ?_) x,
    fun x => piece_eq q (slabs x1) (slabs x2) 0 _ _ rfl _ (fun r d => ?_) x, fun p hp => absurd hp List.not_mem_nil⟩
  case refine_16 =>
    unfold_payloads
    pointwise
    simp only [headOut, tileScore, slabs_ix3, Fin.isValue, Fin.coe_ofNat_eq_mod, Nat.zero_mod, zero_mul, zero_add]
  all_goals
    unfold_payloads
    pointwise
    rfl
end Cert.Proof
-- ==== Proof.Value.AttentionArray.lean ====
/- What the second kernel leaves: attention of every row. -/
module

public import proofs.«01_k».proof.Proof.Value.Attention
public import proofs.«01_k».proof.Proof.Layer
public import Idealize.ShloMosaic.Lib.Tactic.CleanTypes
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-- The tiles of queries and of the result move with the grid point; the keys and the values are the second and third thirds of the columns. -/
theorem index1 : ∀ t : Fin cfg1.N, (win1_0.index t = ![t.val, 0] ∧ win1_3.index t = ![t.val, 0]) ∧ win1_1.index t = ![0, 1] ∧ win1_2.index t = ![0, 2] := by decide +kernel

/-- Queries, keys and values in the array before the launch. -/
def queries (r : Fin 2048) (k : Fin 1024) : EReal := V c main_v7 (ix2 r ⟨k, by omega⟩)
def keys (r : Fin 2048) (k : Fin 1024) : EReal := V c main_v7 (ix2 r ⟨1024 + k, by omega⟩)
def values (r : Fin 2048) (k : Fin 1024) : EReal := V c main_v7 (ix2 r ⟨2048 + k, by omega⟩)

/-- At every grid point the tile is attention over the keys and the values. -/
theorem out_all (t : Fin cfg1.N) (y : S256x1024.Idx) : outsAt1 V c t y
    = tileOut (iblk1 V c 0 t) (slabs fun i => keys V c (i 0) (i 1)) (slabs fun i => values V c (i 0) (i 1)) y := by
  have hk : ∀ t, iblk1 V c 1 t = fun i : S2048x1024.Idx => keys V c (i 0) (i 1) := by
    intro t; funext i
    obtain ⟨r, k, rfl⟩ : ∃ (r : Fin 2048) (k : Fin 1024), i = ix2 r k := ⟨i 0, i 1, eq_ix2 i⟩
    have i1 := (index1 t).2.1
    show _ = V c main_v7 (ix2 r ⟨1024 + k, by omega⟩)
    blk_ext [iblk1, i1]
  have hv : ∀ t, iblk1 V c 2 t = fun i : S2048x1024.Idx => values V c (i 0) (i 1) := by
    intro t; funext i
    obtain ⟨r, k, rfl⟩ : ∃ (r : Fin 2048) (k : Fin 1024), i = ix2 r k := ⟨i 0, i 1, eq_ix2 i⟩
    have i2 := (index1 t).2.2
    show _ = V c main_v7 (ix2 r ⟨2048 + k, by omega⟩)
    blk_ext [iblk1, i2]
  by_cases h : t.val % 8 = 0
  · rw [out_first V c t h, hk, hv]
  · rw [out_later V c t h, show keys1 V c = slabs (iblk1 V c 1 t₀1) from funext fun y => keys_eq V c y,
      show vals1 V c = slabs (iblk1 V c 2 t₀1) from funext fun y => vals_eq V c y, hk, hv]

/-- A tile's row is attention with the late division. -/
theorem tileOut_eq (Q : S256x1024.Idx → EReal) (q k v : Fin 2048 → Fin 1024 → EReal) (r : Fin 256) (s : Fin 2048) (hQ : ∀ j, Q (ix2 r j) = q s j) (j : Fin 1024) :
    tileOut Q (slabs fun i => k (i 0) (i 1)) (slabs fun i => v (i 0) (i 1)) (ix2 r j) = attendLate q k v s j := by
  have hs : ∀ h t, tileScore Q (slabs fun i => k (i 0) (i 1)) h r t = score q k h s t := by
    intro h t
    unfold tileScore score
    exact Finset.sum_congr rfl fun e _ => congrArg₂ (· * ·) (hQ _) rfl
  have hw : ∀ t, (slabs fun i => v (i 0) (i 1)) (ix3 (headOf j) t ⟨j % 64, by omega⟩) = v t j := by
    intro t
    refine congrArg (v t) (Fin.ext ?_)
    show j.val / 64 * 64 + j.val % 64 = j.val
    omega
  show headOut Q _ _ (headOf j) r ⟨j % 64, by omega⟩ = _
  unfold headOut attendLate weight
  simp only [hs, hw]

/-- The array after the launch, at an index. -/
theorem attention_array (y : S2048x1024.Idx) : (show S2048x1024.Idx → EReal from (dat1 V c).arrAt 3 cfg1.N) y
    = attendLate (queries V c) (keys V c) (values V c) (y 0) (y 1) := by
  refine congrFun ((dat1 V c).arrAt_eq_of_covers 3 (fun y : S2048x1024.Idx => attendLate (queries V c) (keys V c) (values V c) (y 0) (y 1)) (by decide +kernel) fun t hf y => ?_) y
  blk_simp
  rw [after1_3, out_all]
  obtain ⟨r, k, rfl⟩ : ∃ (r : Fin 256) (k : Fin 1024), y = ix2 r k := ⟨y 0, y 1, eq_ix2 y⟩
  obtain ⟨⟨i0, i3⟩, -⟩ := index1 t
  have hi : (((win1_3.blk t).view.emb (ix2 r k)) : S2048x1024.Idx) = ix2 (⟨t * 256 + r, by have : t.val < 8 := t.isLt; omega⟩ : Fin 2048) k := by
    blk_ext [i3]
  rw [hi]
  refine tileOut_eq _ _ _ _ r _ (fun j => ?_) k
  show _ = V c main_v7 (ix2 (⟨t * 256 + r, _⟩ : Fin 2048) ⟨j, by omega⟩)
  blk_ext [iblk1, i0]

end Cert.Proof
-- ==== Proof.Value.Quantise.lean ====
/- What one grid point of the third kernel computes: the mixed and normalised rows, their nearest codes, the embedded rows and the loss terms. -/
module

public import proofs.«01_k».proof.Proof.Nearest
public import proofs.«01_k».proof.Proof.Kernel.Frame
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.ValueIdx
public import Idealize.ShloMosaic.Lib.Tactic.CleanTypes
public import Idealize.ShloMosaic.PureOps.Ideal.Laws
@[expose] public section
set_option maxRecDepth 16384
noncomputable section
namespace Cert.Proof
open Cert.KernelIdeal Cert.KernelIdeal.Gen Idealize.ShloMosaic Idealize.ShloMosaic.TcCoe Idealize.SL.Sem

set_option maxHeartbeats 1000000 in
/-- A tile's row after attention is mixed and normalised. -/
theorem mix_block (x : Vec Ideal S256x1024 .f32) (a : Vec Ideal S256x1024 .bf16) (Wo : Vec Ideal S1024x1024 .bf16) (bo g o : Vec Ideal S1x1024 .f32) (r : Fin 256) (c : Fin 1024) :
    k2_pay2 x a Wo bo g o (ix2 r c) = layerNorm (fun c => x (ix2 r c) + dense (fun e => a (ix2 r e)) (fun e k => Wo (ix2 e k)) (fun k => bo (ix2 0 k)) c)
      (fun k => g (ix2 0 k)) (fun k => o (ix2 0 k)) c := by
  have hy : (fun c => x (ix2 r c) + dense (fun e => a (ix2 r e)) (fun e k => Wo (ix2 e k)) (fun k => bo (ix2 0 k)) c)
      = fun c => ((∑ e, a (ix2 r e) * Wo (ix2 e c)) + bo (ix2 0 c)) + x (ix2 r c) := by
    funext c; exact add_comm _ _
  rw [hy]
  unfold_payloads
  pointwise
  exact Eq.trans rfl (layerNorm_eq_rsqrt (fun c => ((∑ e, a (ix2 r e) * Wo (ix2 e c)) + bo (ix2 0 c)) + x (ix2 r c)) (fun k => g (ix2 0 k)) (fun k => o (ix2 0 k)) c)

/-- Its projection. -/
theorem project_block (x : FVec Ideal S256x1024 .f32) (W : Vec Ideal S1024x256 .f32) (r : Fin 256) (p : Fin 256) :
    k2_pay3 x W (ix2 r p) = project (fun e => x (ix2 r e)) (fun e p => W (ix2 e p)) p := by
  unfold_payloads; pointwise; rfl

/-- Its nearest code. -/
theorem code_block (x : FVec Ideal S256x1024 .f32) (W : Vec Ideal S1024x256 .f32) (cb : Vec Ideal S128x256 .f32) (r : Fin 256) (p : Fin 256) :
    k2_pay4 x W cb (ix2 r p) = cb (ix2 (nearest (distLate (project (fun e => x (ix2 r e)) (fun e p => W (ix2 e p))) (fun k p => cb (ix2 k p)))) p) := by
  generalize hd : distLate (project (fun e => x (ix2 r e)) (fun e p => W (ix2 e p))) (fun k p => cb (ix2 k p)) = d
  have hd' : ∀ k, d k = ∑ y, (∑ e, x (ix2 r e) * W (ix2 e y)) * (∑ e, x (ix2 r e) * W (ix2 e y)) - Ideal.ofBits FTy.f32 1073741824#32 * (∑ y, (∑ e, x (ix2 r e) * W (ix2 e y)) * cb (ix2 k y))
      + ∑ y, cb (ix2 k y) * cb (ix2 k y) := by
    intro k; rw [← hd]; rfl
  unfold_payloads
  pointwise
  simp only [← hd']
  rw [fold_min_eq d, fold_minsi_eq d]
  exact onehot_sum (nearest d) fun k => cb (ix2 k p)

/-- Its loss term. -/
theorem loss_block (x : FVec Ideal S256x1024 .f32) (W : Vec Ideal S1024x256 .f32) (cb : Vec Ideal S128x256 .f32) (r : Fin 256) :
    k2_pay6 x W cb (ix2 r 0) = tokenLoss (fun p => k2_pay4 x W cb (ix2 r p)) (fun p => k2_pay3 x W (ix2 r p)) := by
  pointwise [k2_pay6]; rfl

/-- The row after the code is embedded. -/
theorem embed_block (x : FVec Ideal S256x1024 .f32) (q : FVec Ideal S256x256 .f32) (m : FVec Ideal S256x1 .f32) (W : Vec Ideal S256x1024 .bf16) (r : Fin 256) (c : Fin 1024) :
    k2_pay11 x q m W (ix2 r c) = embed (fun c => x (ix2 r c)) (fun p => q (ix2 r p)) (m (ix2 r 0)) (fun p c => W (ix2 p c)) c := by
  pointwise [k2_pay11]; rfl

/-- The row that is stored: the normalised one where the mask exceeds one half. -/
theorem store_block (x : FVec Ideal S256x1024 .f32) (q : FVec Ideal S256x256 .f32) (m : FVec Ideal S256x1 .f32) (W : Vec Ideal S256x1024 .bf16)
    (g b : FVec Ideal S1x1024 .f32) (r : Fin 256) (c : Fin 1024) :
    k2_pay1 x m (k2_pay11 x q m W) g b (k2_pay14 x q m W) (k2_pay15 x q m W) (FloatOps.ofBits FTy.f32 1149239296#32) (ix2 r c)
      = if Ideal.ofBits FTy.f32 1056964608#32 < m (ix2 r 0) then
          layerNorm (embed (fun c => x (ix2 r c)) (fun p => q (ix2 r p)) (m (ix2 r 0)) (fun p c => W (ix2 p c))) (fun c => g (ix2 0 c)) (fun c => b (ix2 0 c)) c
        else x (ix2 r c) := by
  pointwise [k2_pay1, k2_pay14, k2_pay15, embed_block]
  refine congrArg (fun z => if Ideal.ofBits FTy.f32 1056964608#32 < m (ix2 r 0) then z else x (ix2 r c)) ?_
  exact Eq.trans rfl (layerNorm_eq_rsqrt (embed (fun c => x (ix2 r c)) (fun p => q (ix2 r p)) (m (ix2 r 0)) (fun p c => W (ix2 p c))) (fun c => g (ix2 0 c)) (fun c => b (ix2 0 c)) c)

/-- The two running sums after a point: the masked loss terms and the mask. -/
theorem lossSum_block (m l : FVec Ideal S256x1 .f32) (s : Vec Ideal S1x1 .f32) : k2_pay9 m l s (ix2 0 0) = s (ix2 0 0) + ∑ r, l (ix2 r 0) * m (ix2 r 0) := by
  unfold_payloads; pointwise; simp
theorem maskSum_block (m : FVec Ideal S256x1 .f32) (s : Vec Ideal S1x1 .f32) : k2_pay10 m s (ix2 0 0) = s (ix2 0 0) + ∑ r, m (ix2 r 0) := by
  unfold_payloads; pointwise; simp
/-- They begin at zero. -/
theorem lossSum_zero : k2_pay7 (F := Ideal) (ix2 0 0) = (0 : EReal) := by unfold_payloads; pointwise
theorem maskSum_zero : k2_pay8 (F := Ideal) (ix2 0 0) = (0 : EReal) := by unfold_payloads; pointwise

end Cert.Proof
-- ==== Proof.Value.QuantiseTile.lean ====
/- The third kernel's blocks read from the arrays before its launch, row by row. -/
module

public import proofs.«01_k».proof.Proof.Value.Quantise
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-- From the arrays before the launch: the input row and the mask of a row, -/
def inputOf (r : Fin 2048) (k : Fin 1024) : EReal := V c main_v0 (ix2 r k)
def maskOf (r : Fin 2048) : EReal := V c main_v10 (ix2 r 0)
/-- the row after attention is mixed and normalised, -/
def mixed (r : Fin 2048) : Fin 1024 → EReal :=
  layerNorm (fun k => inputOf V c r k + dense (fun e => V c main_v8 (ix2 r e)) (fun e k => V c main_v11 (ix2 e k)) (fun k => V c main_v12 (ix2 0 k)) k)
    (fun k => V c main_v13 (ix2 0 k)) (fun k => V c main_v14 (ix2 0 k))
/-- its projection, -/
def projected (r : Fin 2048) : Fin 256 → EReal := project (mixed V c r) (fun e p => V c main_arg12 (ix2 e p))
/-- its nearest code, -/
def coded (r : Fin 2048) : Fin 256 → EReal :=
  fun p => V c main_arg13 (ix2 (nearest (distLate (projected V c r) (fun k p => V c main_arg13 (ix2 k p)))) p)
/-- the row that is stored, -/
def stored (r : Fin 2048) (k : Fin 1024) : EReal :=
  if Ideal.ofBits FTy.f32 1056964608#32 < maskOf V c r then
    layerNorm (embed (mixed V c r) (coded V c r) (maskOf V c r) (fun p k => V c main_v15 (ix2 p k))) (fun k => V c main_v16 (ix2 0 k)) (fun k => V c main_v17 (ix2 0 k)) k
  else mixed V c r k
/-- and its masked loss term. -/
def lossTerm (r : Fin 2048) : EReal := tokenLoss (coded V c r) (projected V c r) * maskOf V c r

/-- Row `r` of tile `t`. -/
def row (t : Fin cfg2.N) (r : Fin 256) : Fin 2048 := ⟨t * 256 + r, by have : t.val < 8 := t.isLt; omega⟩

/-- Four windows move with the grid point; every other one stays whole. -/
theorem index2 : ∀ t : Fin cfg2.N, (win2_0.index t = ![t.val, 0] ∧ win2_1.index t = ![t.val, 0] ∧ win2_11.index t = ![t.val, 0] ∧ win2_12.index t = ![t.val, 0])
    ∧ (win2_2.index t = ![0, 0] ∧ win2_3.index t = ![0, 0] ∧ win2_4.index t = ![0, 0] ∧ win2_5.index t = ![0, 0])
    ∧ (win2_6.index t = ![0, 0] ∧ win2_7.index t = ![0, 0] ∧ win2_8.index t = ![0, 0] ∧ win2_9.index t = ![0, 0] ∧ win2_10.index t = ![0, 0])
    ∧ (win2_13.index t = ![0, 0] ∧ win2_14.index t = ![0, 0]) := by decide +kernel

variable (t : Fin cfg2.N) (r : Fin 256)

/-- The mixed rows of a tile, and its mask, as the kernel holds them. -/
abbrev mixTile : FVec Ideal S256x1024 .f32 := k2_pay2 (iblk2 V c 0 t) (iblk2 V c 1 t) (iblk2 V c 2 t) (iblk2 V c 3 t) (iblk2 V c 4 t) (iblk2 V c 5 t)
abbrev maskTile : FVec Ideal S256x1 .f32 := k2_pay5 (iblk2 V c 11 t)

theorem mixTile_eq (k : Fin 1024) : mixTile V c t (ix2 r k) = mixed V c (row t r) k := by
  obtain ⟨⟨i0, i1, -, -⟩, ⟨i2, i3, i4, i5⟩, -, -⟩ := index2 t
  have h0 : ∀ k, iblk2 V c 0 t (ix2 r k) = inputOf V c (row t r) k := by intro k; unfold row inputOf; blk_ext [iblk2, i0]
  have h1 : ∀ k, iblk2 V c 1 t (ix2 r k) = V c main_v8 (ix2 (row t r) k) := by intro k; unfold row; blk_ext [iblk2, i1]
  have h2 : ∀ e k, iblk2 V c 2 t (ix2 e k) = V c main_v11 (ix2 e k) := by intro e k; blk_ext [iblk2, i2]
  have h3 : ∀ k, iblk2 V c 3 t (ix2 0 k) = V c main_v12 (ix2 0 k) := by intro k; blk_ext [iblk2, i3]
  have h4 : ∀ k, iblk2 V c 4 t (ix2 0 k) = V c main_v13 (ix2 0 k) := by intro k; blk_ext [iblk2, i4]
  have h5 : ∀ k, iblk2 V c 5 t (ix2 0 k) = V c main_v14 (ix2 0 k) := by intro k; blk_ext [iblk2, i5]
  unfold mixTile
  rw [mix_block]
  simp only [h0, h1, h2, h3, h4, h5]
  rfl

theorem maskTile_eq : maskTile V c t (ix2 r 0) = maskOf V c (row t r) := by
  obtain ⟨⟨-, -, i, -⟩, -⟩ := index2 t
  have h : iblk2 V c 11 t (ix2 r 0) = V c main_v10 (ix2 (row t r) 0) := by unfold row; blk_ext [iblk2, i]
  unfold maskTile
  pointwise [k2_pay5]
  exact h

theorem projectTile_eq (p : Fin 256) : k2_pay3 (mixTile V c t) (iblk2 V c 6 t) (ix2 r p) = projected V c (row t r) p := by
  obtain ⟨-, -, ⟨i6, -⟩, -⟩ := index2 t
  have h6 : ∀ e k, iblk2 V c 6 t (ix2 e k) = V c main_arg12 (ix2 e k) := by intro e k; blk_ext [iblk2, i6]
  rw [project_block]
  simp only [mixTile_eq, h6]
  rfl

theorem codeTile_eq (p : Fin 256) : k2_pay4 (mixTile V c t) (iblk2 V c 6 t) (iblk2 V c 7 t) (ix2 r p) = coded V c (row t r) p := by
  obtain ⟨-, -, ⟨i6, i7, -⟩, -⟩ := index2 t
  have h6 : ∀ e k, iblk2 V c 6 t (ix2 e k) = V c main_arg12 (ix2 e k) := by intro e k; blk_ext [iblk2, i6]
  have h7 : ∀ e k, iblk2 V c 7 t (ix2 e k) = V c main_arg13 (ix2 e k) := by intro e k; blk_ext [iblk2, i7]
  rw [code_block]
  simp only [mixTile_eq, h6, h7]
  rfl

/-- What a point stores, at an index. -/
theorem storeTile_eq (k : Fin 1024) : k2_pay1 (mixTile V c t) (maskTile V c t)
      (k2_pay11 (mixTile V c t) (k2_pay4 (mixTile V c t) (iblk2 V c 6 t) (iblk2 V c 7 t)) (maskTile V c t) (iblk2 V c 8 t)) (k2_pay12 (iblk2 V c 9 t)) (k2_pay13 (iblk2 V c 10 t))
      (k2_pay14 (mixTile V c t) (k2_pay4 (mixTile V c t) (iblk2 V c 6 t) (iblk2 V c 7 t)) (maskTile V c t) (iblk2 V c 8 t))
      (k2_pay15 (mixTile V c t) (k2_pay4 (mixTile V c t) (iblk2 V c 6 t) (iblk2 V c 7 t)) (maskTile V c t) (iblk2 V c 8 t)) (FloatOps.ofBits FTy.f32 1149239296#32) (ix2 r k)
    = stored V c (row t r) k := by
  obtain ⟨-, -, ⟨-, -, i8, i9, i10⟩, -⟩ := index2 t
  have h8 : ∀ e k, iblk2 V c 8 t (ix2 e k) = V c main_v15 (ix2 e k) := by intro e k; blk_ext [iblk2, i8]
  have h9 : ∀ k, iblk2 V c 9 t (ix2 0 k) = V c main_v16 (ix2 0 k) := by intro k; blk_ext [iblk2, i9]
  have h10 : ∀ k, iblk2 V c 10 t (ix2 0 k) = V c main_v17 (ix2 0 k) := by intro k; blk_ext [iblk2, i10]
  have g9 : ∀ k, k2_pay12 (iblk2 V c 9 t) (ix2 0 k) = V c main_v16 (ix2 0 k) := by intro k; pointwise [k2_pay12]; exact h9 k
  have g10 : ∀ k, k2_pay13 (iblk2 V c 10 t) (ix2 0 k) = V c main_v17 (ix2 0 k) := by intro k; pointwise [k2_pay13]; exact h10 k
  rw [store_block]
  simp only [mixTile_eq, maskTile_eq, codeTile_eq, h8, g9, g10]
  rfl

/-- The masked loss term of a row of the tile. -/
theorem lossTile_eq : k2_pay6 (mixTile V c t) (iblk2 V c 6 t) (iblk2 V c 7 t) (ix2 r 0) * maskTile V c t (ix2 r 0) = lossTerm V c (row t r) := by
  rw [loss_block]
  simp only [codeTile_eq, projectTile_eq, maskTile_eq]
  rfl

end Cert.Proof
-- ==== Proof.Value.QuantiseArray.lean ====
/- What the third kernel leaves: the quantised rows, the sum of the masked loss terms and the sum of the mask. -/
module

public import proofs.«01_k».proof.Proof.Value.QuantiseTile
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-- The tile stored at a point, the first or a later one. -/
theorem outs_rows (t : Fin cfg2.N) (r : Fin 256) (k : Fin 1024) : (outsAt2 V c t.val t.isLt).1 (ix2 r k) = stored V c (row t r) k := by
  by_cases h : t.val % 8 = 0
  · rw [outsAt2_A V c t h]
    frame_out
    exact storeTile_eq V c t r k
  · rw [outsAt2_B V c t h]
    frame_out
    exact storeTile_eq V c t r k

/-- The running sums after a point. -/
theorem loss_first (t : Fin cfg2.N) (h : t.val % 8 = 0) : (outsAt2 V c t.val t.isLt).2.1 (ix2 0 0) = (0 : EReal) + ∑ r, lossTerm V c (row t r) := by
  rw [outsAt2_A V c t h]
  frame_out
  rw [lossSum_block, lossSum_zero]
  simp only [← lossTile_eq]
theorem loss_later (t : Fin cfg2.N) (h : ¬ t.val % 8 = 0) : (outsAt2 V c t.val t.isLt).2.1 (ix2 0 0)
    = (outsAt2 V c (t.val - 1) (Nat.lt_of_le_of_lt (Nat.sub_le _ _) t.isLt)).2.1 (ix2 0 0) + ∑ r, lossTerm V c (row t r) := by
  rw [outsAt2_B V c t h]
  frame_out
  rw [lossSum_block]
  simp only [← lossTile_eq]
theorem mask_first (t : Fin cfg2.N) (h : t.val % 8 = 0) : (outsAt2 V c t.val t.isLt).2.2 (ix2 0 0) = (0 : EReal) + ∑ r, maskOf V c (row t r) := by
  rw [outsAt2_A V c t h]
  frame_out
  rw [maskSum_block, maskSum_zero]
  simp only [← maskTile_eq]
theorem mask_later (t : Fin cfg2.N) (h : ¬ t.val % 8 = 0) : (outsAt2 V c t.val t.isLt).2.2 (ix2 0 0)
    = (outsAt2 V c (t.val - 1) (Nat.lt_of_le_of_lt (Nat.sub_le _ _) t.isLt)).2.2 (ix2 0 0) + ∑ r, maskOf V c (row t r) := by
  rw [outsAt2_B V c t h]
  frame_out
  rw [maskSum_block]
  simp only [← maskTile_eq]

/-- The stored rows, as an array. -/
theorem rows_array (y : S2048x1024.Idx) : (show S2048x1024.Idx → EReal from (dat2 V c).arrAt 12 cfg2.N) y = stored V c (y 0) (y 1) := by
  refine congrFun ((dat2 V c).arrAt_eq_of_covers 12 (fun y : S2048x1024.Idx => stored V c (y 0) (y 1)) (by decide +kernel) fun t hf y => ?_) y
  blk_simp
  rw [after2_12]
  obtain ⟨r, k, rfl⟩ : ∃ (r : Fin 256) (k : Fin 1024), y = ix2 r k := ⟨y 0, y 1, eq_ix2 y⟩
  rw [outs_rows]
  obtain ⟨⟨-, -, -, i⟩, -⟩ := index2 t
  have hi : (((win2_12.blk t).view.emb (ix2 r k)) : S2048x1024.Idx) = ix2 (row t r) k := by
    unfold row; blk_ext [i]
  rw [hi]
  rfl

/-- A running value that begins at the first tile's sum and adds each later tile's is, after the last tile, the sum over all rows. -/
theorem total_of_steps (f : (n : ℕ) → n < cfg2.N → EReal) (g : Fin 2048 → EReal)
    (h0 : ∀ t : Fin cfg2.N, t.val % 8 = 0 → f t.val t.isLt = (0 : EReal) + ∑ r, g (row t r))
    (hs : ∀ t : Fin cfg2.N, ¬ t.val % 8 = 0 → f t.val t.isLt = f (t.val - 1) (Nat.lt_of_le_of_lt (Nat.sub_le _ _) t.isLt) + ∑ r, g (row t r))
    (t : Fin cfg2.N) (ht : t.val = 7) : f t.val t.isLt = ∑ r, g r := by
  have key := Pipeline.eq_sum_of_reset_step_apply_single (fun n h (_ : Unit) => f n h) 8 (fun _ => 0)
    (fun n _ => if h : n < 8 then ∑ r, g (row ⟨n, h⟩ r) else 0)
    (fun t h i => by have : t.val < 8 := t.isLt; simp only [dif_pos this]; exact h0 t h)
    (fun t h i => by have : t.val < 8 := t.isLt; simp only [dif_pos this]; exact hs t h) (le_refl 8) t ()
  refine key.trans ?_
  rw [ht, zero_add, Finset.sum_range]
  rw [← (finProdFinEquiv (m := 8) (n := 256)).sum_comp, Fintype.sum_prod_type]
  refine Finset.sum_congr rfl fun n _ => ?_
  rw [dif_pos n.isLt]
  refine Finset.sum_congr rfl fun r _ => congrArg g (Fin.ext ?_)
  show n.val * 256 + r.val = r.val + 256 * n.val
  omega

/-- The two sums are written back after the last point alone. -/
theorem flush13 : ∀ t : Fin cfg2.N, (cfg2.win 13).flush t = true → t.val = 7 := by decide +kernel
theorem flush14 : ∀ t : Fin cfg2.N, (cfg2.win 14).flush t = true → t.val = 7 := by decide +kernel

/-- The sum of the masked loss terms, and of the mask, over all rows. -/
def lossTotal : EReal := ∑ r, lossTerm V c r
def maskTotal : EReal := ∑ r, maskOf V c r

theorem loss_array (y : S1x1.Idx) : (show S1x1.Idx → EReal from (dat2 V c).arrAt 13 cfg2.N) y = lossTotal V c := by
  refine congrFun ((dat2 V c).arrAt_eq_of_covers 13 (fun y : S1x1.Idx => lossTotal V c) (by decide +kernel) fun t hf y => ?_) y
  blk_simp
  rw [after2_13]
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  exact total_of_steps (fun n h => (outsAt2 V c n h).2.1 (ix2 0 0)) _ (loss_first V c) (loss_later V c) t (flush13 t hf)

theorem mask_array (y : S1x1.Idx) : (show S1x1.Idx → EReal from (dat2 V c).arrAt 14 cfg2.N) y = maskTotal V c := by
  refine congrFun ((dat2 V c).arrAt_eq_of_covers 14 (fun y : S1x1.Idx => maskTotal V c) (by decide +kernel) fun t hf y => ?_) y
  blk_simp
  rw [after2_14]
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  exact total_of_steps (fun n h => (outsAt2 V c n h).2.2 (ix2 0 0)) _ (mask_first V c) (mask_later V c) t (flush14 t hf)
end Cert.Proof
-- ==== Proof.Value.Ffn.lean ====
/- What the fourth kernel leaves: the feed-forward stage of every row. -/
module

public import proofs.«01_k».proof.Proof.Layer
public import proofs.«01_k».proof.Proof.Kernel.Frame
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.ValueIdx
public import Idealize.ShloMosaic.Lib.Tactic.CleanTypes
public import Idealize.ShloMosaic.PureOps.Ideal.Laws
@[expose] public section
set_option maxRecDepth 16384
noncomputable section
namespace Cert.Proof
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

/-- A sum over 4096 hidden units is the sum of its four quarters. -/
theorem sum_quarters (f : Fin 4096 → EReal) :
    ∑ j, f j = ∑ j : Fin 1024, f ⟨↑j, by omega⟩ + ∑ j : Fin 1024, f ⟨1024 + ↑j, by omega⟩
      + ∑ j : Fin 1024, f ⟨2048 + ↑j, by omega⟩ + ∑ j : Fin 1024, f ⟨3072 + ↑j, by omega⟩ := by
  rw [Fin.sum_univ_add (a := 3072) (b := 1024) f, Fin.sum_univ_add (a := 2048) (b := 1024),
    Fin.sum_univ_add (a := 1024) (b := 1024)]
  rfl

/-- The running sum of the first half of the hidden units, and then of both halves with the residual, at an index. -/
theorem ffn_acc (x0 : Vec Ideal S256x1024 .f32) (x1 : Vec Ideal S1024x4096 .bf16) (x2 : Vec Ideal S1x4096 .f32) (x3 : Vec Ideal S4096x1024 .bf16)
    (x4 x5 x6 : Vec Ideal S1x1024 .f32) (r : Fin 256) (c : Fin 1024) :
    k3_pay5 (k3_pay10 x0 x1 x2 x3 x4 x5 x6) (k3_pay11 x0 x1 x2 x3 x4 x5 x6) (View.ld x1 r3_8) (View.ld x2 r3_9)
        (View.ld x3 r3_10) (View.ld x1 r3_11) (View.ld x2 r3_12) (View.ld x3 r3_13) (ix2 r c)
      = ffnRow (fun k => x0 (ix2 r k)) (fun k j => x1 (ix2 k j)) (fun j => x2 (ix2 0 j)) (fun j k => x3 (ix2 j k)) (fun k => x4 (ix2 0 k)) c := by
  unfold_payloads
  pointwise
  rw [ffnRow, sum_quarters]
  simp only [add_assoc]
  ac_rfl

/-- What one grid point stores is the normalised row. -/
theorem ffn_block (x0 : Vec Ideal S256x1024 .f32) (x1 : Vec Ideal S1024x4096 .bf16) (x2 : Vec Ideal S1x4096 .f32) (x3 : Vec Ideal S4096x1024 .bf16)
    (x4 x5 x6 : Vec Ideal S1x1024 .f32) (r : Fin 256) (c : Fin 1024) :
    out3_7 x0 x1 x2 x3 x4 x5 x6 (ix2 r c) = layerNorm (ffnRow (fun k => x0 (ix2 r k)) (fun k j => x1 (ix2 k j)) (fun j => x2 (ix2 0 j))
      (fun j k => x3 (ix2 j k)) (fun k => x4 (ix2 0 k))) (fun k => x5 (ix2 0 k)) (fun k => x6 (ix2 0 k)) c := by
  frame_out
  pointwise [k3_pay1, k3_pay6, k3_pay7, k3_pay8, k3_pay9, ffn_acc]
  exact Eq.trans rfl (layerNorm_eq_rsqrt (ffnRow (fun k => x0 (ix2 r k)) (fun k j => x1 (ix2 k j)) (fun j => x2 (ix2 0 j))
    (fun j k => x3 (ix2 j k)) (fun k => x4 (ix2 0 k))) (fun k => x5 (ix2 0 k)) (fun k => x6 (ix2 0 k)) c)

/-- The tile of the input and of the result moves with the grid point; every other operand stays whole. -/
theorem index3 : ∀ t : Fin cfg3.N, (win3_0.index t = ![t.val, 0] ∧ win3_7.index t = ![t.val, 0]) ∧ win3_1.index t = ![0, 0] ∧ win3_2.index t = ![0, 0]
    ∧ win3_3.index t = ![0, 0] ∧ win3_4.index t = ![0, 0] ∧ win3_5.index t = ![0, 0] ∧ win3_6.index t = ![0, 0] := by decide +kernel

/-- One row of the array after the launch, from the arrays before it. -/
def ffnFrom (r : Fin 2048) (k : Fin 1024) : EReal := layerNorm (ffnRow (fun k => V c main_v18_0 (ix2 r k)) (fun k j => V c main_v24 (ix2 k j))
  (fun j => V c main_v25 (ix2 0 j)) (fun j k => V c main_v26 (ix2 j k)) (fun k => V c main_v27 (ix2 0 k))) (fun k => V c main_v28 (ix2 0 k)) (fun k => V c main_v29 (ix2 0 k)) k

set_option maxHeartbeats 4000000 in
/-- The array after the launch, at an index. -/
theorem ffn_array (y : S2048x1024.Idx) : (show S2048x1024.Idx → EReal from (dat3 V c).arrAt 7 cfg3.N) y = ffnFrom V c (y 0) (y 1) := by
  refine congrFun ((dat3 V c).arrAt_eq_of_covers 7 (fun y : S2048x1024.Idx => ffnFrom V c (y 0) (y 1)) (by decide +kernel) fun t hf y => ?_) y
  blk_simp
  rw [after3_7]
  obtain ⟨r, k, rfl⟩ : ∃ (r : Fin 256) (k : Fin 1024), y = ix2 r k := ⟨y 0, y 1, eq_ix2 y⟩
  rw [ffn_block]
  obtain ⟨⟨i0, i7⟩, i1, i2, i3, i4, i5, i6⟩ := index3 t
  have hi : (((win3_7.blk t).view.emb (ix2 r k)) : S2048x1024.Idx) = ix2 (⟨t * 256 + r, by have : t.val < 8 := t.isLt; omega⟩ : Fin 2048) k := by
    blk_ext [i7]
  rw [hi]
  have h0 : ∀ k, iblk3 V c 0 t (ix2 r k) = V c main_v18_0 (ix2 (⟨t * 256 + r, by have : t.val < 8 := t.isLt; omega⟩ : Fin 2048) k) := by
    intro k; blk_ext [iblk3, i0]
  have h1 : ∀ e k, iblk3 V c 1 t (ix2 e k) = V c main_v24 (ix2 e k) := by intro e k; blk_ext [iblk3, i1]
  have h2 : ∀ k, iblk3 V c 2 t (ix2 0 k) = V c main_v25 (ix2 0 k) := by intro k; blk_ext [iblk3, i2]
  have h3 : ∀ e k, iblk3 V c 3 t (ix2 e k) = V c main_v26 (ix2 e k) := by intro e k; blk_ext [iblk3, i3]
  have h4 : ∀ k, iblk3 V c 4 t (ix2 0 k) = V c main_v27 (ix2 0 k) := by intro k; blk_ext [iblk3, i4]
  have h5 : ∀ k, iblk3 V c 5 t (ix2 0 k) = V c main_v28 (ix2 0 k) := by intro k; blk_ext [iblk3, i5]
  have h6 : ∀ k, iblk3 V c 6 t (ix2 0 k) = V c main_v29 (ix2 0 k) := by intro k; blk_ext [iblk3, i6]
  simp only [h0, h1, h2, h3, h4, h5, h6]
  rfl

end Cert.Proof
-- ==== Proof.Value.Kernel.lean ====
/- The kernel's two results, from its arguments: the layer in the order the kernel works. -/
module

public import proofs.«01_k».proof.Proof.Value.Hosts
public import proofs.«01_k».proof.Proof.Value.Qkv
public import proofs.«01_k».proof.Proof.Value.AttentionArray
public import proofs.«01_k».proof.Proof.Value.QuantiseArray
public import proofs.«01_k».proof.Proof.Value.Ffn
@[expose] public section
set_option maxRecDepth 16384
noncomputable section
namespace Cert.Proof
open Cert.KernelIdeal Cert.KernelIdeal.Gen Idealize.ShloMosaic Idealize.ShloMosaic.TcCoe Idealize.SL.Sem
variable (m : (ℓ : Loc nD τ sig) → Buf (Elt Ideal) ℓ) (ρ : Dev nD → PrngReg) (c : Dev nD)

/-- What the kernel takes, from the launch memory. -/
def kernelParams : Params := Params.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

/-- Queries, keys and values, as the first launch leaves them. -/
theorem qkv_of (r : Fin 2048) (j : Fin 3072) : (V2 m ρ c main_v7 (ix2 r j) : EReal)
    = qkvRow ((kernelParams m c).x r) (kernelParams m c).Wq (kernelParams m c).Wk (kernelParams m c).Wv (kernelParams m c).bq (kernelParams m c).bk (kernelParams m c).bv j := by
  have h := qkv_array (V1 m ρ) c (ix2 r j)
  rw [show V2 m ρ c main_v7 = (dat0 (V1 m ρ) c).arrAt 7 cfg0.N from W2_arr m ρ c 7]
  refine h.trans ?_
  obtain ⟨h0, h1, h2, h3, h4, h5, h6⟩ := hosts0 (W0 m ρ c)
  have e0 : (fun k => V1 m ρ c main_v0 (ix2 r k) : Fin 1024 → EReal) = (kernelParams m c).x r := by
    funext k
    exact h0 r k
  have e1 : (fun e k => V1 m ρ c main_v1 (ix2 e k) : Fin 1024 → Fin 1024 → EReal) = (kernelParams m c).Wq := by
    funext e k
    exact h1 e k
  have e2 : (fun e k => V1 m ρ c main_v2 (ix2 e k) : Fin 1024 → Fin 1024 → EReal) = (kernelParams m c).Wk := by
    funext e k
    exact h2 e k
  have e3 : (fun e k => V1 m ρ c main_v3 (ix2 e k) : Fin 1024 → Fin 1024 → EReal) = (kernelParams m c).Wv := by
    funext e k
    exact h3 e k
  have e4 : (fun k => V1 m ρ c main_v4 (ix2 0 k) : Fin 1024 → EReal) = (kernelParams m c).bq := by
    funext k
    exact h4 k
  have e5 : (fun k => V1 m ρ c main_v5 (ix2 0 k) : Fin 1024 → EReal) = (kernelParams m c).bk := by
    funext k
    exact h5 k
  have e6 : (fun k => V1 m ρ c main_v6 (ix2 0 k) : Fin 1024 → EReal) = (kernelParams m c).bv := by
    funext k
    exact h6 k
  exact congrFun (congr (congr (congr (congr (congr (congr (congrArg qkvRow e0) e1) e2) e3) e4) e5) e6) j

theorem queries_of : queries (V2 m ρ) c = (kernelParams m c).q := by
  funext r k
  refine (qkv_of m ρ c r _).trans ?_
  unfold qkvRow
  rw [dif_pos k.isLt]
  rfl
theorem keys_of : keys (V2 m ρ) c = (kernelParams m c).k := by
  funext r k
  refine (qkv_of m ρ c r _).trans ?_
  unfold qkvRow
  rw [dif_neg (by show ¬ 1024 + k.val < 1024; omega), dif_pos (by show 1024 + k.val < 2048; omega)]
  have : (⟨1024 + k.val - 1024, by omega⟩ : Fin 1024) = k := Fin.ext (by simp)
  show dense _ _ _ (⟨1024 + k.val - 1024, _⟩ : Fin 1024) = _
  rw [this]; rfl
theorem values_of : values (V2 m ρ) c = (kernelParams m c).v := by
  funext r k
  refine (qkv_of m ρ c r _).trans ?_
  unfold qkvRow
  rw [dif_neg (by show ¬ 2048 + k.val < 1024; omega), dif_neg (by show ¬ 2048 + k.val < 2048; omega)]
  have : (⟨2048 + k.val - 2048, by omega⟩ : Fin 1024) = k := Fin.ext (by simp)
  show dense _ _ _ (⟨2048 + k.val - 2048, _⟩ : Fin 1024) = _
  rw [this]; rfl

/-- Attention, as the second launch leaves it and the third finds it. -/
theorem attention_of (r : Fin 2048) (k : Fin 1024) : (V4 m ρ c main_v8 (ix2 r k) : EReal)
    = attendLate (kernelParams m c).q (kernelParams m c).k (kernelParams m c).v r k := by
  rw [show V4 m ρ c main_v8 = (dat1 (V2 m ρ) c).arrAt 3 cfg1.N from (W4_of m ρ c main_v8 (by decide)).trans (W3_arr m ρ c 3)]
  refine (attention_array (V2 m ρ) c (ix2 r k)).trans ?_
  rw [queries_of, keys_of, values_of]
  rfl

theorem input_of (r : Fin 2048) (k : Fin 1024) : inputOf (V4 m ρ) c r k = (kernelParams m c).x r k := by
  refine Eq.trans (congrFun (show V4 m ρ c main_v0 = V1 m ρ c main_v0 from (W4_of m ρ c main_v0 (by decide)).trans ((W3_of m ρ c main_v0 (by decide +kernel)).trans
    (W2_of m ρ c main_v0 (by decide +kernel)))) (ix2 r k)) ?_
  exact (hosts0 (W0 m ρ c)).1 r k

/-- The mask as the third launch finds it. -/
theorem mask_of (r : Fin 2048) : maskOf (V4 m ρ) c r = (kernelParams m c).m r := by
  exact ((hosts2 (W3 m ρ c)).1 r).trans (congrArg (FloatOps.uitofp (F := Ideal) .f32) (congrFun (W3_args m ρ c main_arg1 (by decide)) (ix2 0 r)))

/-- The row after attention. -/
theorem mixed_of (r : Fin 2048) : mixed (V4 m ρ) c r = (kernelParams m c).x1' r := by
  obtain ⟨-, h11, h12, h13, h14, -⟩ := hosts2 (W3 m ρ c)
  unfold mixed Params.x1' Params.mix
  have e8 : (fun e => V4 m ρ c main_v8 (ix2 r e) : Fin 1024 → EReal) = attendLate (kernelParams m c).q (kernelParams m c).k (kernelParams m c).v r := by
    funext e
    exact attention_of m ρ c r e
  have e11 : (fun e k => V4 m ρ c main_v11 (ix2 e k) : Fin 1024 → Fin 1024 → EReal) = (kernelParams m c).Wo := by
    funext e k
    exact (h11 e k).trans (congrFun (W3_args m ρ c main_arg8 (by decide)) (ix2 e k))
  have e12 : (fun k => V4 m ρ c main_v12 (ix2 0 k) : Fin 1024 → EReal) = (kernelParams m c).bo := by
    funext k
    exact (h12 k).trans (congrFun (W3_args m ρ c main_arg9 (by decide)) (ix1 k))
  have e13 : (fun k => V4 m ρ c main_v13 (ix2 0 k) : Fin 1024 → EReal) = (kernelParams m c).g1 := by
    funext k
    exact (h13 k).trans (congrFun (W3_args m ρ c main_arg10 (by decide)) (ix1 k))
  have e14 : (fun k => V4 m ρ c main_v14 (ix2 0 k) : Fin 1024 → EReal) = (kernelParams m c).o1 := by
    funext k
    exact (h14 k).trans (congrFun (W3_args m ρ c main_arg11 (by decide)) (ix1 k))
  have hy : (fun k => inputOf (V4 m ρ) c r k + dense (fun e => V4 m ρ c main_v8 (ix2 r e)) (fun e k => V4 m ρ c main_v11 (ix2 e k)) (fun k => V4 m ρ c main_v12 (ix2 0 k)) k)
      = fun k => (kernelParams m c).x r k + dense (attendLate (kernelParams m c).q (kernelParams m c).k (kernelParams m c).v r) (kernelParams m c).Wo (kernelParams m c).bo k := by
    funext k
    exact congrArg₂ (· + ·) (input_of m ρ c r k) (congrFun (congr (congr (congrArg dense e8) e11) e12) k)
  exact congr (congr (congrArg layerNorm hy) e13) e14

theorem projected_of (r : Fin 2048) : projected (V4 m ρ) c r = (kernelParams m c).f' r := by
  have e : (fun e p => V4 m ρ c main_arg12 (ix2 e p) : Fin 1024 → Fin 256 → EReal) = (kernelParams m c).Wtovq := by
    funext e p
    exact congrFun (W4_args m ρ c main_arg12 (by decide)) (ix2 e p)
  have h := congr (congrArg project (mixed_of m ρ c r)) e
  exact h

theorem coded_of (r : Fin 2048) : coded (V4 m ρ) c r = (kernelParams m c).code' r := by
  have e : (fun k p => V4 m ρ c main_arg13 (ix2 k p) : Fin 128 → Fin 256 → EReal) = (kernelParams m c).cb := by
    funext k p
    exact congrFun (W4_args m ρ c main_arg13 (by decide)) (ix2 k p)
  have h := congr e (congrArg nearest (congr (congrArg distLate (projected_of m ρ c r)) e))
  exact h

/-- The mask exceeds one half where it is set. -/
theorem half_lt_mask (b : BitVec 1) (x y : EReal) :
    (if Ideal.ofBits FTy.f32 1056964608#32 < FloatOps.uitofp (F := Ideal) .f32 b then x else y) = Scalar.select b x y := by
  have hh : Ideal.ofBits FTy.f32 1056964608#32 = ((1 / 2 : ℝ) : EReal) := by
    simp [Ideal.ofBits, Ideal.ieee]
    norm_cast
    norm_num
  rcases (by decide : ∀ b : BitVec 1, b = 0#1 ∨ b = 1#1) b with rfl | rfl
  · have : (FloatOps.uitofp (F := Ideal) .f32 (0#1) : EReal) = 0 := by
      show ((((0#1 : BitVec 1).toNat : ℝ)) : EReal) = 0
      simp
    rw [this, hh, if_neg (by exact_mod_cast (by norm_num : ¬ (1 / 2 : ℝ) < 0))]; rfl
  · have : (FloatOps.uitofp (F := Ideal) .f32 (1#1) : EReal) = 1 := by
      show ((((1#1 : BitVec 1).toNat : ℝ)) : EReal) = 1
      simp
    rw [this, hh, if_pos (by exact_mod_cast (by norm_num : (1 / 2 : ℝ) < 1))]; rfl

/-- The row after quantisation. -/
theorem stored_of (r : Fin 2048) (k : Fin 1024) : stored (V4 m ρ) c r k = (kernelParams m c).x2' r k := by
  obtain ⟨-, -, -, -, -, h15, h16, h17⟩ := hosts2 (W3 m ρ c)
  unfold stored Params.x2' Params.quantised
  rw [mask_of, mixed_of, coded_of]
  have e15 : (fun p k => V4 m ρ c main_v15 (ix2 p k) : Fin 256 → Fin 1024 → EReal) = (kernelParams m c).Wtoemb := by
    funext p k
    exact (h15 p k).trans (congrFun (W3_args m ρ c main_arg14 (by decide)) (ix2 p k))
  have e16 : (fun k => V4 m ρ c main_v16 (ix2 0 k) : Fin 1024 → EReal) = (kernelParams m c).gq := by
    funext k
    exact (h16 k).trans (congrFun (W3_args m ρ c main_arg15 (by decide)) (ix1 k))
  have e17 : (fun k => V4 m ρ c main_v17 (ix2 0 k) : Fin 1024 → EReal) = (kernelParams m c).oq := by
    funext k
    exact (h17 k).trans (congrFun (W3_args m ρ c main_arg16 (by decide)) (ix1 k))
  refine (half_lt_mask ((kernelParams m c).mask r) _ _).trans (congrArg (fun z => Scalar.select _ z _) ?_)
  exact congrFun (congr (congr (congrArg layerNorm (congrArg (embed _ _ _) e15)) e16) e17) k

/-- The kernel's first result. -/
theorem kernel_rows (r : Fin 2048) (k : Fin 1024) : (W8 m ρ c (Proc.devRef .tc main_v31) (ix3 r 0 k) : EReal) = (kernelParams m c).x3' r k := by
  refine (hosts4 (W7 m ρ c) r k).trans ?_
  rw [show W7 m ρ c (Proc.devRef .tc main_v30) = (dat3 (V6 m ρ) c).arrAt 7 cfg3.N from W7_arr m ρ c 7]
  refine (ffn_array (V6 m ρ) c (ix2 r k)).trans ?_
  obtain ⟨-, h24, h25, h26, h27, h28, h29⟩ := hosts3 (W5 m ρ c)
  have e18 : (fun k => V6 m ρ c main_v18_0 (ix2 r k) : Fin 1024 → EReal) = (kernelParams m c).x2' r := by
    funext k
    refine Eq.trans (congrFun (show V6 m ρ c main_v18_0 = (dat2 (V4 m ρ) c).arrAt 12 cfg2.N from (W6_of m ρ c main_v18_0 (by decide)).trans (W5_arr m ρ c 12)) (ix2 r k)) ?_
    exact (rows_array (V4 m ρ) c (ix2 r k)).trans (stored_of m ρ c r k)
  have e24 : (fun e j => V6 m ρ c main_v24 (ix2 e j) : Fin 1024 → Fin 4096 → EReal) = (kernelParams m c).W1 := by
    funext e j
    exact (h24 e j).trans (congrFun (W5_args m ρ c main_arg17 (by decide)) (ix2 e j))
  have e25 : (fun j => V6 m ρ c main_v25 (ix2 0 j) : Fin 4096 → EReal) = (kernelParams m c).b1 := by
    funext j
    exact (h25 j).trans (congrFun (W5_args m ρ c main_arg18 (by decide)) (ix1 j))
  have e26 : (fun j k => V6 m ρ c main_v26 (ix2 j k) : Fin 4096 → Fin 1024 → EReal) = (kernelParams m c).W2 := by
    funext j k
    exact (h26 j k).trans (congrFun (W5_args m ρ c main_arg19 (by decide)) (ix2 j k))
  have e27 : (fun k => V6 m ρ c main_v27 (ix2 0 k) : Fin 1024 → EReal) = (kernelParams m c).b2 := by
    funext k
    exact (h27 k).trans (congrFun (W5_args m ρ c main_arg20 (by decide)) (ix1 k))
  have e28 : (fun k => V6 m ρ c main_v28 (ix2 0 k) : Fin 1024 → EReal) = (kernelParams m c).g2 := by
    funext k
    exact (h28 k).trans (congrFun (W5_args m ρ c main_arg21 (by decide)) (ix1 k))
  have e29 : (fun k => V6 m ρ c main_v29 (ix2 0 k) : Fin 1024 → EReal) = (kernelParams m c).o2 := by
    funext k
    exact (h29 k).trans (congrFun (W5_args m ρ c main_arg22 (by decide)) (ix1 k))
  exact congrFun (congr (congr (congrArg layerNorm (congr (congr (congr (congr (congrArg ffnRow e18) e24) e25) e26) e27)) e28) e29) k

/-- One times a value is the value. -/
theorem cOne_eq : cOne = 1 := by
  simp [cOne, Ideal.ofBits, Ideal.ieee]
  norm_cast
  norm_num

/-- The kernel's second result. -/
theorem kernel_loss : (W8 m ρ c (Proc.devRef .tc main_v23) ix0 : EReal) = (kernelParams m c).loss' := by
  rw [show W8 m ρ c (Proc.devRef .tc main_v23) = W6 m ρ c (Proc.devRef .tc main_v23) from
    (W8_of m ρ c main_v23 (by decide)).trans (W7_of m ρ c main_v23 (by decide +kernel))]
  refine (hosts3 (W5 m ρ c)).1.trans ?_
  have hl : (W5 m ρ c (Proc.devRef .tc main_v18_1) (ix2 0 0) : EReal) = lossTotal (V4 m ρ) c :=
    Eq.trans (congrFun (W5_arr m ρ c 13) (ix2 0 0)) (loss_array (V4 m ρ) c (ix2 0 0))
  have hm : (W5 m ρ c (Proc.devRef .tc main_v18_2) (ix2 0 0) : EReal) = maskTotal (V4 m ρ) c :=
    Eq.trans (congrFun (W5_arr m ρ c 14) (ix2 0 0)) (mask_array (V4 m ρ) c (ix2 0 0))
  rw [hl, hm, cOne_eq, one_mul]
  unfold Params.loss' lossTotal maskTotal lossTerm
  simp only [coded_of, projected_of, mask_of, cOne_eq]

end Cert.Proof
-- ==== Proof.Precondition.lean ====
/- The precondition, read: an argument whose absolute values are all less than plus infinity holds real numbers. -/
module

public import proofs.«01_k».proof.Defs
public import proofs.«01_k».proof.Proof.Gen.Pre_finite_inputs
public import proofs.«01_k».proof.Proof.Equation
public import proofs.«01_k».proof.Proof.Nearest
public import proofs.«01_k».proof.Proof.Value.Kernel

@[expose] public section

noncomputable section

namespace Cert.Proof

open Idealize.ShloMosaic Idealize.ShloMosaic.TcCoe

/-- A value whose absolute value is less than plus infinity is real. -/
theorem real_of_abs_lt {a : EReal} (h : max a (-a) < ⊤) : IsReal a := by
  refine isReal_of_ne ?_ ?_
  · rintro rfl
    simp at h
  · rintro rfl
    simp at h

/-- An array that passes the precondition's comparison holds real numbers. -/
theorem real_of_ones {s : Shape} (a : FVec Ideal s .f32) (hb : Cert.Pre_finite_inputs.S_.BroadcastsInDim s (![] : Fin 0 → Fin s.rank))
    (h : cmpf .olt (Host.absf a) (broadcastInDim s ![] hb (constant Cert.Pre_finite_inputs.S_ .f32 0x7F800000#32)) = (fun _ => 1#1)) (i : s.Idx) : IsReal (a i) := by
  have hi : BitVec.ofBool (decide ((max (a i) (-(a i)) : EReal) < Ideal.ofBits .f32 0x7F800000#32)) = 1#1 := congrFun h i
  rw [show (Ideal.ofBits .f32 0x7F800000#32 : EReal) = ⊤ from cTop_eq] at hi
  refine real_of_abs_lt ?_
  by_contra hc
  rw [decide_eq_false hc] at hi
  exact absurd hi (by decide)

/-- Under the precondition the kernel's arguments are those on which the two orders agree. -/
theorem kernel_real (m : (ℓ : Loc Cert.KernelIdeal.nD Cert.KernelIdeal.τ Cert.KernelIdeal.sig) → Buf (Elt Ideal) ℓ)
    (hpre : Cert.Pre_KernelIdeal_finite_inputs m) (c : Dev Cert.KernelIdeal.nD) : (kernelParams m c).Real := by
  obtain ⟨h0, h2, h3, h4, h5, h10, h11, h12⟩ := hpre c
  exact
    { x := fun r k => real_of_ones _ _ h0 (ix3 r 0 k)
      Wq := fun e k => real_of_ones _ _ h2 (ix2 e k)
      bq := fun k => real_of_ones _ _ h3 (ix1 k)
      Wk := fun e k => real_of_ones _ _ h4 (ix2 e k)
      bk := fun k => real_of_ones _ _ h5 (ix1 k)
      g1 := fun k => real_of_ones _ _ h10 (ix1 k)
      o1 := fun k => real_of_ones _ _ h11 (ix1 k)
      Wtovq := fun e p => real_of_ones _ _ h12 (ix2 e p) }

end Cert.Proof
-- ==== Proof.Reference.Program.lean ====
/- The reference program as lists of its host operations, stage by stage, and its run: every run ends with the buffers
   that the lists leave, one after the other. -/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.Reference

open Cert.ReferenceIdeal Cert.ReferenceIdeal.Gen Idealize.ShloMosaic Idealize.ShloMosaic.TcCoe Idealize.SL.Sem Idealize.ShloMosaic.StableHlo

variable {F : FTy → Type} [FloatOps F]

/-- The queries, keys and values, head by head. -/
abbrev heads : List (HloOp τ sig (Elt F)) :=
  [ binary main_arg0 main_arg2 main_v0 ((fun l r => Host.dotGeneral dot_S2048x1x1024_S1024x1024_S2048x1x1024_2_0_01_1_n_n none l r) : (⟨S2048x1x1024, .f32⟩ : BufTy).Contents (Elt F) → (⟨S1024x1024, .f32⟩ : BufTy).Contents (Elt F) → (⟨S2048x1x1024, .f32⟩ : BufTy).Contents (Elt F)),
    unary main_arg3 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v0 main_v2 main_v3 (addf : (⟨S2048x1x1024, .f32⟩ : BufTy).Contents (Elt F) → (⟨S2048x1x1024, .f32⟩ : BufTy).Contents (Elt F) → (⟨S2048x1x1024, .f32⟩ : BufTy).Contents (Elt F)),
    nullary main_cst (constant S_ .f32 0x3E000000#32),
    unary main_cst main_v4 (broadcastInDim S2048x1x1024 ![] bcast_S_S2048x1x1024 : (⟨S_, .f32⟩ : BufTy).Contents (Elt F) → (⟨S2048x1x1024, .f32⟩ : BufTy).Contents (Elt F)),
    binary main_v3 main_v4 main_v5 (mulf : (⟨S2048x1x1024, .f32⟩ : BufTy).Contents (Elt F) → (⟨S2048x1x1024, .f32⟩ : BufTy).Contents (Elt F) → (⟨S2048x1x1024, .f32⟩ : BufTy).Contents (Elt F)),
    binary main_arg0 main_arg4 main_v6 ((fun l r => Host.dotGeneral dot_S2048x1x1024_S1024x1024_S2048x1x1024_2_0_01_1_n_n none l r) : (⟨S2048x1x1024, .f32⟩ : BufTy).Contents (Elt F) → (⟨S1024x1024, .f32⟩ : BufTy).Contents (Elt F) → (⟨S2048x1x1024, .f32⟩ : BufTy).Contents (Elt F)),
    unary main_arg5 main_v7 (broadcastInDim S1x1x1024 ![2] bcast_S1024_S1x1x1024_2 : (⟨S1024, .f32⟩ : BufTy).Contents (Elt F) → (⟨S1x1x1024, .f32⟩ : BufTy).Contents (Elt F)),
    unary main_v7 main_v8 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v6 main_v8 main_v9 (addf : (⟨S2048x1x1024, .f32⟩ : BufTy).Contents (Elt F) → (⟨S2048x1x1024, .f32⟩ : BufTy).Contents (Elt F) → (⟨S2048x1x1024, .f32⟩ : BufTy).Contents (Elt F)),
    binary main_arg0 main_arg6 main_v10 ((fun l r => Host.dotGeneral dot_S2048x1x1024_S1024x1024_S2048x1x1024_2_0_01_1_n_n none l r) : (⟨S2048x1x1024, .f32⟩ : BufTy).Contents (Elt F) → (⟨S1024x1024, .f32⟩ : BufTy).Contents (Elt F) → (⟨S2048x1x1024, .f32⟩ : BufTy).Contents (Elt F)),
    unary main_arg7 main_v11 (broadcastInDim S1x1x1024 ![2] bcast_S1024_S1x1x1024_2 : (⟨S1024, .f32⟩ : BufTy).Contents (Elt F) → (⟨S1x1x1024, .f32⟩ : BufTy).Contents (Elt F)),
    unary main_v11 main_v12 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v10 main_v12 main_v13 (addf : (⟨S2048x1x1024, .f32⟩ : BufTy).Contents (Elt F) → (⟨S2048x1x1024, .f32⟩ : BufTy).Contents (Elt F) → (⟨S2048x1x1024, .f32⟩ : BufTy).Contents (Elt F)),
    reshape main_v5 main_v14 (rfl : (.f32 : EltTy) = .f32) shapeCasts_S2048x1x1024_S2048x16x64,
    unary main_v14 main_v15 ((transpose S16x2048x64 [1, 0, 2] · transposes_S2048x16x64_S16x2048x64_1_0_2) : (⟨S2048x16x64, .f32⟩ : BufTy).Contents (Elt F) → (⟨S16x2048x64, .f32⟩ : BufTy).Contents (Elt F)),
    reshape main_v9 main_v16 (rfl : (.f32 : EltTy) = .f32) shapeCasts_S2048x1x1024_S2048x16x64,
    unary main_v16 main_v17 ((transpose S16x2048x64 [1, 0, 2] · transposes_S2048x16x64_S16x2048x64_1_0_2) : (⟨S2048x16x64, .f32⟩ : BufTy).Contents (Elt F) → (⟨S16x2048x64, .f32⟩ : BufTy).Contents (Elt F)),
    reshape main_v13 main_v18 (rfl : (.f32 : EltTy) = .f32) shapeCasts_S2048x1x1024_S2048x16x64,
    unary main_v18 main_v19 ((transpose S16x2048x64 [1, 0, 2] · transposes_S2048x16x64_S16x2048x64_1_0_2) : (⟨S2048x16x64, .f32⟩ : BufTy).Contents (Elt F) → (⟨S16x2048x64, .f32⟩ : BufTy).Contents (Elt F)),
    unary main_v17 main_v20 ((transpose S16x64x2048 [0, 2, 1] · transposes_S16x2048x64_S16x64x2048_0_2_1) : (⟨S16x2048x64, .f32⟩ : BufTy).Contents (Elt F) → (⟨S16x64x2048, .f32⟩ : BufTy).Contents (Elt F)) ]

/-- What `heads` writes. -/
abbrev headsWrites : List (Ref sig .tc) := [main_v0, main_v1, main_v2, main_v3, main_cst, main_v4, main_v5, main_v6, main_v7, main_v8, main_v9, main_v10, main_v11, main_v12, main_v13, main_v14, main_v15, main_v16, main_v17, main_v18, main_v19, main_v20]

/-- Softmax attention. -/
abbrev attention : List (HloOp τ sig (Elt F)) :=
  [ binary main_v15 main_v20 main_v21 ((fun l r => Host.dotGeneral dot_S16x2048x64_S16x64x2048_S16x2048x2048_2_1_1_2_0_0 none l r) : (⟨S16x2048x64, .f32⟩ : BufTy).Contents (Elt F) → (⟨S16x64x2048, .f32⟩ : BufTy).Contents (Elt F) → (⟨S16x2048x2048, .f32⟩ : BufTy).Contents (Elt F)),
    nullary main_cst_0 (constant S_ .f32 0xFF800000#32),
    binary main_v21 main_cst_0 main_v22 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_1 (constant S_ .f32 0xFF800000#32),
    unary main_cst_1 main_v23 (broadcastInDim S16x2048 ![] bcast_S_S16x2048 : (⟨S_, .f32⟩ : BufTy).Contents (Elt F) → (⟨S16x2048, .f32⟩ : BufTy).Contents (Elt F)),
    binary main_v23 main_v22 main_v24 (maximumf : (⟨S16x2048, .f32⟩ : BufTy).Contents (Elt F) → (⟨S16x2048, .f32⟩ : BufTy).Contents (Elt F) → (⟨S16x2048, .f32⟩ : BufTy).Contents (Elt F)),
    unary main_v24 main_v25 (broadcastInDim S16x2048x1 ![0, 1] bcast_S16x2048_S16x2048x1_0_1 : (⟨S16x2048, .f32⟩ : BufTy).Contents (Elt F) → (⟨S16x2048x1, .f32⟩ : BufTy).Contents (Elt F)),
    unary main_v25 main_v26 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v21 main_v26 main_v27 (subf : (⟨S16x2048x2048, .f32⟩ : BufTy).Contents (Elt F) → (⟨S16x2048x2048, .f32⟩ : BufTy).Contents (Elt F) → (⟨S16x2048x2048, .f32⟩ : BufTy).Contents (Elt F)),
    unary main_v27 main_v28 (Host.exp : (⟨S16x2048x2048, .f32⟩ : BufTy).Contents (Elt F) → (⟨S16x2048x2048, .f32⟩ : BufTy).Contents (Elt F)),
    nullary main_cst_2 (constant S_ .f32 0x00000000#32),
    binary main_v28 main_cst_2 main_v29 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v29 main_v30 (broadcastInDim S16x2048x1 ![0, 1] bcast_S16x2048_S16x2048x1_0_1 : (⟨S16x2048, .f32⟩ : BufTy).Contents (Elt F) → (⟨S16x2048x1, .f32⟩ : BufTy).Contents (Elt F)),
    unary main_v30 main_v31 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v28 main_v31 main_v32 (Host.divf : (⟨S16x2048x2048, .f32⟩ : BufTy).Contents (Elt F) → (⟨S16x2048x2048, .f32⟩ : BufTy).Contents (Elt F) → (⟨S16x2048x2048, .f32⟩ : BufTy).Contents (Elt F)),
    binary main_v32 main_v19 main_v33 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    unary main_v33 main_v34 ((transpose S2048x16x64 [1, 0, 2] · transposes_S16x2048x64_S2048x16x64_1_0_2) : (⟨S16x2048x64, .f32⟩ : BufTy).Contents (Elt F) → (⟨S2048x16x64, .f32⟩ : BufTy).Contents (Elt F)),
    reshape main_v34 main_v35 (rfl : (.f32 : EltTy) = .f32) shapeCasts_S2048x16x64_S2048x1x1024 ]

/-- What `attention` writes. -/
abbrev attentionWrites : List (Ref sig .tc) := [main_v21, main_cst_0, main_v22, main_cst_1, main_v23, main_v24, main_v25, main_v26, main_v27, main_v28, main_cst_2, main_v29, main_v30, main_v31, main_v32, main_v33, main_v34, main_v35]

/-- The output projection and the first residual. -/
abbrev project : List (HloOp τ sig (Elt F)) :=
  [ binary main_v35 main_arg8 main_v36 ((fun l r => Host.dotGeneral dot_S2048x1x1024_S1024x1024_S2048x1x1024_2_0_01_1_n_n none l r) : (⟨S2048x1x1024, .f32⟩ : BufTy).Contents (Elt F) → (⟨S1024x1024, .f32⟩ : BufTy).Contents (Elt F) → (⟨S2048x1x1024, .f32⟩ : BufTy).Contents (Elt F)),
    unary main_arg9 main_v37 (broadcastInDim S1x1x1024 ![2] bcast_S1024_S1x1x1024_2 : (⟨S1024, .f32⟩ : BufTy).Contents (Elt F) → (⟨S1x1x1024, .f32⟩ : BufTy).Contents (Elt F)),
    unary main_v37 main_v38 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v36 main_v38 main_v39 (addf : (⟨S2048x1x1024, .f32⟩ : BufTy).Contents (Elt F) → (⟨S2048x1x1024, .f32⟩ : BufTy).Contents (Elt F) → (⟨S2048x1x1024, .f32⟩ : BufTy).Contents (Elt F)),
    binary main_arg0 main_v39 main_v40 (addf : (⟨S2048x1x1024, .f32⟩ : BufTy).Contents (Elt F) → (⟨S2048x1x1024, .f32⟩ : BufTy).Contents (Elt F) → (⟨S2048x1x1024, .f32⟩ : BufTy).Contents (Elt F)) ]

/-- What `project` writes. -/
abbrev projectWrites : List (Ref sig .tc) := [main_v36, main_v37, main_v38, main_v39, main_v40]

/-- The first normalisation, up to the square root, -/
abbrev normA : List (HloOp τ sig (Elt F)) :=
  [ nullary main_cst_3 (constant S_ .f32 0x00000000#32),
    binary main_v40 main_cst_3 main_v41 ((fun x v => Host.reduceAdd x v reducesTo_S2048x1x1024_S2048x1_d2 h_S_) : (⟨S2048x1x1024, .f32⟩ : BufTy).Contents (Elt F) → (⟨S_, .f32⟩ : BufTy).Contents (Elt F) → (⟨S2048x1, .f32⟩ : BufTy).Contents (Elt F)),
    unary main_v41 main_v42 (broadcastInDim S2048x1x1 ![0, 1] bcast_S2048x1_S2048x1x1_0_1 : (⟨S2048x1, .f32⟩ : BufTy).Contents (Elt F) → (⟨S2048x1x1, .f32⟩ : BufTy).Contents (Elt F)),
    nullary main_cst_4 (constant S_ .f32 0x44800000#32),
    unary main_cst_4 main_v43 (broadcastInDim S2048x1x1 ![] bcast_S_S2048x1x1 : (⟨S_, .f32⟩ : BufTy).Contents (Elt F) → (⟨S2048x1x1, .f32⟩ : BufTy).Contents (Elt F)),
    binary main_v42 main_v43 main_v44 (Host.divf : (⟨S2048x1x1, .f32⟩ : BufTy).Contents (Elt F) → (⟨S2048x1x1, .f32⟩ : BufTy).Contents (Elt F) → (⟨S2048x1x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S2048x1x1024, .f32⟩) main_v40) (TRef.of (T := ⟨S_, .f32⟩) main_call0_cst) (TRef.of (T := ⟨S2048x1, .f32⟩) main_call0_v0) (fun x v => Host.reduceAdd x v reducesTo_S2048x1x1024_S2048x1_d2 h_S_),
    TRef.unary (TRef.of (T := ⟨S2048x1, .f32⟩) main_call0_v0) (TRef.of (T := ⟨S2048x1x1, .f32⟩) main_call0_v1) (broadcastInDim S2048x1x1 ![0, 1] bcast_S2048x1_S2048x1x1_0_1),
    TRef.nullary (TRef.of (T := ⟨S_, .f32⟩) main_call0_cst_0) (constant S_ .f32 0x44800000#32),
    TRef.unary (TRef.of (T := ⟨S_, .f32⟩) main_call0_cst_0) (TRef.of (T := ⟨S2048x1x1, .f32⟩) main_call0_v2) (broadcastInDim S2048x1x1 ![] bcast_S_S2048x1x1),
    TRef.binary (TRef.of (T := ⟨S2048x1x1, .f32⟩) main_call0_v1) (TRef.of (T := ⟨S2048x1x1, .f32⟩) main_call0_v2) (TRef.of (T := ⟨S2048x1x1, .f32⟩) main_call0_v3) Host.divf,
    TRef.unary (TRef.of (T := ⟨S2048x1x1, .f32⟩) main_call0_v3) (TRef.of (T := ⟨S2048x1x1024, .f32⟩) main_call0_v4) (broadcastInDim S2048x1x1024 ![0, 1, 2] bcast_S2048x1x1_S2048x1x1024_0_1_2),
    TRef.binary (TRef.of (T := ⟨S2048x1x1024, .f32⟩) main_v40) (TRef.of (T := ⟨S2048x1x1024, .f32⟩) main_call0_v4) (TRef.of (T := ⟨S2048x1x1024, .f32⟩) main_call0_v5) subf,
    TRef.binary (TRef.of (T := ⟨S2048x1x1024, .f32⟩) main_call0_v5) (TRef.of (T := ⟨S2048x1x1024, .f32⟩) main_call0_v5) (TRef.of (T := ⟨S2048x1x1024, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x44800000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S2048x1x1024, .f32⟩) main_call0_v6) (TRef.of (T := ⟨S_, .f32⟩) main_call0_cst_2) (TRef.of (T := ⟨S2048x1, .f32⟩) main_call0_v9) (fun x v => Host.reduceAdd x v reducesTo_S2048x1x1024_S2048x1_d2 h_S_),
    TRef.unary (TRef.of (T := ⟨S2048x1, .f32⟩) main_call0_v9) (TRef.of (T := ⟨S2048x1x1, .f32⟩) main_call0_v10) (broadcastInDim S2048x1x1 ![0, 1] bcast_S2048x1_S2048x1x1_0_1),
    TRef.unary (TRef.of (T := ⟨S_, .f32⟩) main_call0_v8) (TRef.of (T := ⟨S2048x1x1, .f32⟩) main_call0_v11) (broadcastInDim S2048x1x1 ![] bcast_S_S2048x1x1),
    TRef.binary (TRef.of (T := ⟨S2048x1x1, .f32⟩) main_call0_v10) (TRef.of (T := ⟨S2048x1x1, .f32⟩) main_call0_v11) (TRef.of (T := ⟨S2048x1x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S2048x1x1, .f32⟩) main_call0_call0_v1) (broadcastInDim S2048x1x1 ![] bcast_S_S2048x1x1),
    TRef.ternary (TRef.of (T := ⟨S_, .i1⟩) main_call0_v13) (TRef.of (T := ⟨S2048x1x1, .f32⟩) main_call0_v12) (TRef.of (T := ⟨S2048x1x1, .f32⟩) main_call0_call0_v1) (TRef.of (T := ⟨S2048x1x1, .f32⟩) main_v45) (fun p a b => select (broadcastInDim S2048x1x1 ![] bcast_S_S2048x1x1 p) a b),
    unary main_v44 main_v46 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)),
    binary main_v40 main_v46 main_v47 (subf : (⟨S2048x1x1024, .f32⟩ : BufTy).Contents (Elt F) → (⟨S2048x1x1024, .f32⟩ : BufTy).Contents (Elt F) → (⟨S2048x1x1024, .f32⟩ : BufTy).Contents (Elt F)),
    nullary main_cst_5 (constant S_ .f32 0x3727C5AC#32),
    unary main_cst_5 main_v48 (broadcastInDim S2048x1x1 ![] bcast_S_S2048x1x1 : (⟨S_, .f32⟩ : BufTy).Contents (Elt F) → (⟨S2048x1x1, .f32⟩ : BufTy).Contents (Elt F)),
    binary main_v45 main_v48 main_v49 (addf : (⟨S2048x1x1, .f32⟩ : BufTy).Contents (Elt F) → (⟨S2048x1x1, .f32⟩ : BufTy).Contents (Elt F) → (⟨S2048x1x1, .f32⟩ : BufTy).Contents (Elt F)),
    unary main_v49 main_v50 (Host.sqrt : (⟨S2048x1x1, .f32⟩ : BufTy).Contents (Elt F) → (⟨S2048x1x1, .f32⟩ : BufTy).Contents (Elt F)),
    unary main_v50 main_v51 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)) ]

/-- What `normA` writes. -/
abbrev normAWrites : List (Ref sig .tc) := [main_cst_3, main_v41, main_v42, main_cst_4, main_v43, main_v44, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v45, main_v46, main_v47, main_cst_5, main_v48, main_v49, main_v50, main_v51]

/-- and its end. -/
abbrev normB : List (HloOp τ sig (Elt F)) :=
  [ binary main_v47 main_v51 main_v52 (Host.divf : (⟨S2048x1x1024, .f32⟩ : BufTy).Contents (Elt F) → (⟨S2048x1x1024, .f32⟩ : BufTy).Contents (Elt F) → (⟨S2048x1x1024, .f32⟩ : BufTy).Contents (Elt F)),
    unary main_arg10 main_v53 (broadcastInDim S1x1x1024 ![2] bcast_S1024_S1x1x1024_2 : (⟨S1024, .f32⟩ : BufTy).Contents (Elt F) → (⟨S1x1x1024, .f32⟩ : BufTy).Contents (Elt F)),
    unary main_v53 main_v54 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v52 main_v54 main_v55 (mulf : (⟨S2048x1x1024, .f32⟩ : BufTy).Contents (Elt F) → (⟨S2048x1x1024, .f32⟩ : BufTy).Contents (Elt F) → (⟨S2048x1x1024, .f32⟩ : BufTy).Contents (Elt F)),
    unary main_arg11 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v55 main_v57 main_v58 (addf : (⟨S2048x1x1024, .f32⟩ : BufTy).Contents (Elt F) → (⟨S2048x1x1024, .f32⟩ : BufTy).Contents (Elt F) → (⟨S2048x1x1024, .f32⟩ : BufTy).Contents (Elt F)) ]

/-- What `normB` writes. -/
abbrev normBWrites : List (Ref sig .tc) := [main_v52, main_v53, main_v54, main_v55, main_v56, main_v57, main_v58]

/-- The projection to codes and the squared distances to the codebook. -/
abbrev distances : List (HloOp τ sig (Elt F)) :=
  [ binary main_v58 main_arg12 main_v59 ((fun l r => Host.dotGeneral dot_S2048x1x1024_S1024x256_S2048x1x256_2_0_01_1_n_n none l r) : (⟨S2048x1x1024, .f32⟩ : BufTy).Contents (Elt F) → (⟨S1024x256, .f32⟩ : BufTy).Contents (Elt F) → (⟨S2048x1x256, .f32⟩ : BufTy).Contents (Elt F)),
    unary main_v59 main_v60 ((transpose S1x2048x256 [1, 0, 2] · transposes_S2048x1x256_S1x2048x256_1_0_2) : (⟨S2048x1x256, .f32⟩ : BufTy).Contents (Elt F) → (⟨S1x2048x256, .f32⟩ : BufTy).Contents (Elt F)),
    reshape main_v60 main_v61 (rfl : (.f32 : EltTy) = .f32) shapeCasts_S1x2048x256_S2048x256,
    binary main_v61 main_v61 main_v62 (mulf : (⟨S2048x256, .f32⟩ : BufTy).Contents (Elt F) → (⟨S2048x256, .f32⟩ : BufTy).Contents (Elt F) → (⟨S2048x256, .f32⟩ : BufTy).Contents (Elt F)),
    nullary main_cst_6 (constant S_ .f32 0x00000000#32),
    binary main_v62 main_cst_6 main_v63 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v63 main_v64 (broadcastInDim S2048x1 ![0] bcast_S2048_S2048x1_0 : (⟨S2048, .f32⟩ : BufTy).Contents (Elt F) → (⟨S2048x1, .f32⟩ : BufTy).Contents (Elt F)),
    nullary main_cst_7 (constant S_ .f32 0x40000000#32),
    unary main_cst_7 main_v65 (broadcastInDim S2048x256 ![] bcast_S_S2048x256 : (⟨S_, .f32⟩ : BufTy).Contents (Elt F) → (⟨S2048x256, .f32⟩ : BufTy).Contents (Elt F)),
    binary main_v65 main_v61 main_v66 (mulf : (⟨S2048x256, .f32⟩ : BufTy).Contents (Elt F) → (⟨S2048x256, .f32⟩ : BufTy).Contents (Elt F) → (⟨S2048x256, .f32⟩ : BufTy).Contents (Elt F)),
    unary main_arg13 main_v67 ((transpose S256x128 [1, 0] · transposes_S128x256_S256x128_1_0) : (⟨S128x256, .f32⟩ : BufTy).Contents (Elt F) → (⟨S256x128, .f32⟩ : BufTy).Contents (Elt F)),
    binary main_v66 main_v67 main_v68 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    unary main_v64 main_v69 (broadcastInDim S2048x128 ![0, 1] bcast_S2048x1_S2048x128_0_1 : (⟨S2048x1, .f32⟩ : BufTy).Contents (Elt F) → (⟨S2048x128, .f32⟩ : BufTy).Contents (Elt F)),
    binary main_v69 main_v68 main_v70 (subf : (⟨S2048x128, .f32⟩ : BufTy).Contents (Elt F) → (⟨S2048x128, .f32⟩ : BufTy).Contents (Elt F) → (⟨S2048x128, .f32⟩ : BufTy).Contents (Elt F)),
    binary main_arg13 main_arg13 main_v71 (mulf : (⟨S128x256, .f32⟩ : BufTy).Contents (Elt F) → (⟨S128x256, .f32⟩ : BufTy).Contents (Elt F) → (⟨S128x256, .f32⟩ : BufTy).Contents (Elt F)),
    nullary main_cst_8 (constant S_ .f32 0x00000000#32),
    binary main_v71 main_cst_8 main_v72 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S2048x128 ![0, 1] bcast_S1x128_S2048x128_0_1 : (⟨S1x128, .f32⟩ : BufTy).Contents (Elt F) → (⟨S2048x128, .f32⟩ : BufTy).Contents (Elt F)),
    binary main_v70 main_v74 main_v75 (addf : (⟨S2048x128, .f32⟩ : BufTy).Contents (Elt F) → (⟨S2048x128, .f32⟩ : BufTy).Contents (Elt F) → (⟨S2048x128, .f32⟩ : BufTy).Contents (Elt F)) ]

/-- What `distances` writes. -/
abbrev distancesWrites : List (Ref sig .tc) := [main_v59, main_v60, main_v61, main_v62, main_cst_6, main_v63, main_v64, main_cst_7, main_v65, main_v66, main_v67, main_v68, main_v69, main_v70, main_v71, main_cst_8, main_v72, main_v73, main_v74, main_v75]

/-- The nearest code of each token. -/
abbrev nearest : List (HloOp τ sig (Elt F)) :=
  [ TRef.nullary (TRef.of (T := ⟨S2048x128, .i32⟩) main_call1_v0) (iotaInDim S2048x128 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S2048x128, .f32⟩) main_v75) (TRef.of (T := ⟨S2048x128, .i32⟩) main_call1_v0) (TRef.of (T := ⟨S_, .f32⟩) main_call1_cst) (TRef.of (T := ⟨S_, .i32⟩) main_call1_c) (TRef.of (T := ⟨S2048, .f32⟩) main_call1_v1_0) (fun x y u v j => (Host.argReduce reducer_argmin_f32_i32 x y u v reducesTo_S2048x128_S2048_d1 h_S_ j).1),
    TRef.quaternary (TRef.of (T := ⟨S2048x128, .f32⟩) main_v75) (TRef.of (T := ⟨S2048x128, .i32⟩) main_call1_v0) (TRef.of (T := ⟨S_, .f32⟩) main_call1_cst) (TRef.of (T := ⟨S_, .i32⟩) main_call1_c) (TRef.of (T := ⟨S2048, .i32⟩) main_v76) (fun x y u v j => (Host.argReduce reducer_argmin_f32_i32 x y u v reducesTo_S2048x128_S2048_d1 h_S_ j).2),
    nullary main_c_9 (constantI S_ 32 0#32),
    unary main_c_9 main_v77 (broadcastInDim S2048 ![] bcast_S_S2048 : (⟨S_, .i32⟩ : BufTy).Contents (Elt F) → (⟨S2048, .i32⟩ : BufTy).Contents (Elt F)),
    binary main_v76 main_v77 main_v78 (cmpi .slt : (⟨S2048, .i32⟩ : BufTy).Contents (Elt F) → (⟨S2048, .i32⟩ : BufTy).Contents (Elt F) → (⟨S2048, .i1⟩ : BufTy).Contents (Elt F)),
    nullary main_c_10 (constantI S_ 32 128#32),
    unary main_c_10 main_v79 (broadcastInDim S2048 ![] bcast_S_S2048 : (⟨S_, .i32⟩ : BufTy).Contents (Elt F) → (⟨S2048, .i32⟩ : BufTy).Contents (Elt F)),
    binary main_v76 main_v79 main_v80 (addi : (⟨S2048, .i32⟩ : BufTy).Contents (Elt F) → (⟨S2048, .i32⟩ : BufTy).Contents (Elt F) → (⟨S2048, .i32⟩ : BufTy).Contents (Elt F)),
    ternary main_v78 main_v80 main_v76 main_v81 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v81 main_v82 (broadcastInDim S2048x1 ![0] bcast_S2048_S2048x1_0 : (⟨S2048, .i32⟩ : BufTy).Contents (Elt F) → (⟨S2048x1, .i32⟩ : BufTy).Contents (Elt F)),
    binary main_arg13 main_v82 main_v83 ((fun x i => Host.gather gather_S128x256_S2048x1_S2048x256_1_0_n_n_0_1_1256 x i) : (⟨S128x256, .f32⟩ : BufTy).Contents (Elt F) → (⟨S2048x1, .i32⟩ : BufTy).Contents (Elt F) → (⟨S2048x256, .f32⟩ : BufTy).Contents (Elt F)) ]

/-- What `nearest` writes. -/
abbrev nearestWrites : List (Ref sig .tc) := [main_call1_v0, main_call1_cst, main_call1_c, main_call1_v1_0, main_v76, main_c_9, main_v77, main_v78, main_c_10, main_v79, main_v80, main_v81, main_v82, main_v83]

/-- The straight-through value and the commitment loss. -/
abbrev loss : List (HloOp τ sig (Elt F)) :=
  [ binary main_v83 main_v61 main_v84 (subf : (⟨S2048x256, .f32⟩ : BufTy).Contents (Elt F) → (⟨S2048x256, .f32⟩ : BufTy).Contents (Elt F) → (⟨S2048x256, .f32⟩ : BufTy).Contents (Elt F)),
    binary main_v61 main_v84 main_v85 (addf : (⟨S2048x256, .f32⟩ : BufTy).Contents (Elt F) → (⟨S2048x256, .f32⟩ : BufTy).Contents (Elt F) → (⟨S2048x256, .f32⟩ : BufTy).Contents (Elt F)),
    reshape main_arg1 main_v86 (rfl : (.i1 : EltTy) = .i1) shapeCasts_S1x2048_S2048,
    unary main_v86 main_v87 (uitofp .f32 : (⟨S2048, .i1⟩ : BufTy).Contents (Elt F) → (⟨S2048, .f32⟩ : BufTy).Contents (Elt F)),
    binary main_v83 main_v61 main_v88 (subf : (⟨S2048x256, .f32⟩ : BufTy).Contents (Elt F) → (⟨S2048x256, .f32⟩ : BufTy).Contents (Elt F) → (⟨S2048x256, .f32⟩ : BufTy).Contents (Elt F)),
    binary main_v88 main_v88 main_v89 (mulf : (⟨S2048x256, .f32⟩ : BufTy).Contents (Elt F) → (⟨S2048x256, .f32⟩ : BufTy).Contents (Elt F) → (⟨S2048x256, .f32⟩ : BufTy).Contents (Elt F)),
    nullary main_cst_11 (constant S_ .f32 0x00000000#32),
    binary main_v89 main_cst_11 main_v90 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    nullary main_cst_12 (constant S_ .f32 0x43800000#32),
    unary main_cst_12 main_v91 (broadcastInDim S2048 ![] bcast_S_S2048 : (⟨S_, .f32⟩ : BufTy).Contents (Elt F) → (⟨S2048, .f32⟩ : BufTy).Contents (Elt F)),
    binary main_v90 main_v91 main_v92 (Host.divf : (⟨S2048, .f32⟩ : BufTy).Contents (Elt F) → (⟨S2048, .f32⟩ : BufTy).Contents (Elt F) → (⟨S2048, .f32⟩ : BufTy).Contents (Elt F)),
    binary main_v92 main_v87 main_v93 (mulf : (⟨S2048, .f32⟩ : BufTy).Contents (Elt F) → (⟨S2048, .f32⟩ : BufTy).Contents (Elt F) → (⟨S2048, .f32⟩ : BufTy).Contents (Elt F)),
    nullary main_cst_13 (constant S_ .f32 0x00000000#32),
    binary main_v93 main_cst_13 main_v94 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_14 (constant S_ .f32 0x3F800000#32),
    binary main_cst_14 main_v94 main_v95 (mulf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_v87 main_cst_15 main_v96 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_16 (constant S_ .f32 0x3F800000#32),
    binary main_v96 main_cst_16 main_v97 (maximumf : (⟨S_, .f32⟩ : BufTy).Contents (Elt F) → (⟨S_, .f32⟩ : BufTy).Contents (Elt F) → (⟨S_, .f32⟩ : BufTy).Contents (Elt F)),
    binary main_v95 main_v97 main_v98 (Host.divf : (⟨S_, .f32⟩ : BufTy).Contents (Elt F) → (⟨S_, .f32⟩ : BufTy).Contents (Elt F) → (⟨S_, .f32⟩ : BufTy).Contents (Elt F)) ]

/-- What `loss` writes. -/
abbrev lossWrites : List (Ref sig .tc) := [main_v84, main_v85, main_v86, main_v87, main_v88, main_v89, main_cst_11, main_v90, main_cst_12, main_v91, main_v92, main_v93, main_cst_13, main_v94, main_cst_14, main_v95, main_cst_15, main_v96, main_cst_16, main_v97, main_v98]

/-- The mask as a column. -/
abbrev maskCol : List (HloOp τ sig (Elt F)) :=
  [ unary main_v87 main_v99 (broadcastInDim S2048x1 ![0] bcast_S2048_S2048x1_0 : (⟨S2048, .f32⟩ : BufTy).Contents (Elt F) → (⟨S2048x1, .f32⟩ : BufTy).Contents (Elt F)),
    unary main_v99 main_v100 (broadcastInDim S2048x256 ![0, 1] bcast_S2048x1_S2048x256_0_1 : (⟨S2048x1, .f32⟩ : BufTy).Contents (Elt F) → (⟨S2048x256, .f32⟩ : BufTy).Contents (Elt F)) ]

/-- What `maskCol` writes. -/
abbrev maskColWrites : List (Ref sig .tc) := [main_v99, main_v100]

/-- The masked code brought back, with its residual. -/
abbrev embed : List (HloOp τ sig (Elt F)) :=
  [ binary main_v85 main_v100 main_v101 (mulf : (⟨S2048x256, .f32⟩ : BufTy).Contents (Elt F) → (⟨S2048x256, .f32⟩ : BufTy).Contents (Elt F) → (⟨S2048x256, .f32⟩ : BufTy).Contents (Elt F)),
    reshape main_v101 main_v102 (rfl : (.f32 : EltTy) = .f32) shapeCasts_S2048x256_S1x2048x256,
    binary main_v102 main_arg14 main_v103 ((fun l r => Host.dotGeneral dot_S1x2048x256_S256x1024_S1x2048x1024_2_0_01_1_n_n none l r) : (⟨S1x2048x256, .f32⟩ : BufTy).Contents (Elt F) → (⟨S256x1024, .f32⟩ : BufTy).Contents (Elt F) → (⟨S1x2048x1024, .f32⟩ : BufTy).Contents (Elt F)),
    unary main_v103 main_v104 ((transpose S2048x1x1024 [1, 0, 2] · transposes_S1x2048x1024_S2048x1x1024_1_0_2) : (⟨S1x2048x1024, .f32⟩ : BufTy).Contents (Elt F) → (⟨S2048x1x1024, .f32⟩ : BufTy).Contents (Elt F)),
    binary main_v58 main_v104 main_v105 (addf : (⟨S2048x1x1024, .f32⟩ : BufTy).Contents (Elt F) → (⟨S2048x1x1024, .f32⟩ : BufTy).Contents (Elt F) → (⟨S2048x1x1024, .f32⟩ : BufTy).Contents (Elt F)) ]

/-- What `embed` writes. -/
abbrev embedWrites : List (Ref sig .tc) := [main_v101, main_v102, main_v103, main_v104, main_v105]

/-- The second normalisation. -/
abbrev normQ : List (HloOp τ sig (Elt F)) :=
  [ nullary main_cst_17 (constant S_ .f32 0x00000000#32),
    binary main_v105 main_cst_17 main_v106 ((fun x v => Host.reduceAdd x v reducesTo_S2048x1x1024_S2048x1_d2 h_S_) : (⟨S2048x1x1024, .f32⟩ : BufTy).Contents (Elt F) → (⟨S_, .f32⟩ : BufTy).Contents (Elt F) → (⟨S2048x1, .f32⟩ : BufTy).Contents (Elt F)),
    unary main_v106 main_v107 (broadcastInDim S2048x1x1 ![0, 1] bcast_S2048x1_S2048x1x1_0_1 : (⟨S2048x1, .f32⟩ : BufTy).Contents (Elt F) → (⟨S2048x1x1, .f32⟩ : BufTy).Contents (Elt F)),
    nullary main_cst_18 (constant S_ .f32 0x44800000#32),
    unary main_cst_18 main_v108 (broadcastInDim S2048x1x1 ![] bcast_S_S2048x1x1 : (⟨S_, .f32⟩ : BufTy).Contents (Elt F) → (⟨S2048x1x1, .f32⟩ : BufTy).Contents (Elt F)),
    binary main_v107 main_v108 main_v109 (Host.divf : (⟨S2048x1x1, .f32⟩ : BufTy).Contents (Elt F) → (⟨S2048x1x1, .f32⟩ : BufTy).Contents (Elt F) → (⟨S2048x1x1, .f32⟩ : BufTy).Contents (Elt F)),
    nullary main_c_19 (constantI S_ 32 0#32),
    TRef.nullary (TRef.of (T := ⟨S_, .f32⟩) main_call2_cst) (constant S_ .f32 0x00000000#32),
    TRef.binary (TRef.of (T := ⟨S2048x1x1024, .f32⟩) main_v105) (TRef.of (T := ⟨S_, .f32⟩) main_call2_cst) (TRef.of (T := ⟨S2048x1, .f32⟩) main_call2_v0) (fun x v => Host.reduceAdd x v reducesTo_S2048x1x1024_S2048x1_d2 h_S_),
    TRef.unary (TRef.of (T := ⟨S2048x1, .f32⟩) main_call2_v0) (TRef.of (T := ⟨S2048x1x1, .f32⟩) main_call2_v1) (broadcastInDim S2048x1x1 ![0, 1] bcast_S2048x1_S2048x1x1_0_1),
    TRef.nullary (TRef.of (T := ⟨S_, .f32⟩) main_call2_cst_0) (constant S_ .f32 0x44800000#32),
    TRef.unary (TRef.of (T := ⟨S_, .f32⟩) main_call2_cst_0) (TRef.of (T := ⟨S2048x1x1, .f32⟩) main_call2_v2) (broadcastInDim S2048x1x1 ![] bcast_S_S2048x1x1),
    TRef.binary (TRef.of (T := ⟨S2048x1x1, .f32⟩) main_call2_v1) (TRef.of (T := ⟨S2048x1x1, .f32⟩) main_call2_v2) (TRef.of (T := ⟨S2048x1x1, .f32⟩) main_call2_v3) Host.divf,
    TRef.unary (TRef.of (T := ⟨S2048x1x1, .f32⟩) main_call2_v3) (TRef.of (T := ⟨S2048x1x1024, .f32⟩) main_call2_v4) (broadcastInDim S2048x1x1024 ![0, 1, 2] bcast_S2048x1x1_S2048x1x1024_0_1_2),
    TRef.binary (TRef.of (T := ⟨S2048x1x1024, .f32⟩) main_v105) (TRef.of (T := ⟨S2048x1x1024, .f32⟩) main_call2_v4) (TRef.of (T := ⟨S2048x1x1024, .f32⟩) main_call2_v5) subf,
    TRef.binary (TRef.of (T := ⟨S2048x1x1024, .f32⟩) main_call2_v5) (TRef.of (T := ⟨S2048x1x1024, .f32⟩) main_call2_v5) (TRef.of (T := ⟨S2048x1x1024, .f32⟩) main_call2_v6) mulf,
    TRef.unary (TRef.of (T := ⟨S_, .i32⟩) main_c_19) (TRef.of (T := ⟨S_, .f32⟩) main_call2_v7) (sitofp .f32),
    TRef.nullary (TRef.of (T := ⟨S_, .f32⟩) main_call2_cst_1) (constant S_ .f32 0x44800000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S2048x1x1024, .f32⟩) main_call2_v6) (TRef.of (T := ⟨S_, .f32⟩) main_call2_cst_2) (TRef.of (T := ⟨S2048x1, .f32⟩) main_call2_v9) (fun x v => Host.reduceAdd x v reducesTo_S2048x1x1024_S2048x1_d2 h_S_),
    TRef.unary (TRef.of (T := ⟨S2048x1, .f32⟩) main_call2_v9) (TRef.of (T := ⟨S2048x1x1, .f32⟩) main_call2_v10) (broadcastInDim S2048x1x1 ![0, 1] bcast_S2048x1_S2048x1x1_0_1),
    TRef.unary (TRef.of (T := ⟨S_, .f32⟩) main_call2_v8) (TRef.of (T := ⟨S2048x1x1, .f32⟩) main_call2_v11) (broadcastInDim S2048x1x1 ![] bcast_S_S2048x1x1),
    TRef.binary (TRef.of (T := ⟨S2048x1x1, .f32⟩) main_call2_v10) (TRef.of (T := ⟨S2048x1x1, .f32⟩) main_call2_v11) (TRef.of (T := ⟨S2048x1x1, .f32⟩) main_call2_v12) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v13) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S2048x1x1, .f32⟩) main_call2_call0_v1) (broadcastInDim S2048x1x1 ![] bcast_S_S2048x1x1),
    TRef.ternary (TRef.of (T := ⟨S_, .i1⟩) main_call2_v13) (TRef.of (T := ⟨S2048x1x1, .f32⟩) main_call2_v12) (TRef.of (T := ⟨S2048x1x1, .f32⟩) main_call2_call0_v1) (TRef.of (T := ⟨S2048x1x1, .f32⟩) main_v110) (fun p a b => select (broadcastInDim S2048x1x1 ![] bcast_S_S2048x1x1 p) a b),
    unary main_v109 main_v111 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)),
    binary main_v105 main_v111 main_v112 (subf : (⟨S2048x1x1024, .f32⟩ : BufTy).Contents (Elt F) → (⟨S2048x1x1024, .f32⟩ : BufTy).Contents (Elt F) → (⟨S2048x1x1024, .f32⟩ : BufTy).Contents (Elt F)),
    nullary main_cst_20 (constant S_ .f32 0x3727C5AC#32),
    unary main_cst_20 main_v113 (broadcastInDim S2048x1x1 ![] bcast_S_S2048x1x1 : (⟨S_, .f32⟩ : BufTy).Contents (Elt F) → (⟨S2048x1x1, .f32⟩ : BufTy).Contents (Elt F)),
    binary main_v110 main_v113 main_v114 (addf : (⟨S2048x1x1, .f32⟩ : BufTy).Contents (Elt F) → (⟨S2048x1x1, .f32⟩ : BufTy).Contents (Elt F) → (⟨S2048x1x1, .f32⟩ : BufTy).Contents (Elt F)),
    unary main_v114 main_v115 (Host.sqrt : (⟨S2048x1x1, .f32⟩ : BufTy).Contents (Elt F) → (⟨S2048x1x1, .f32⟩ : BufTy).Contents (Elt F)),
    unary main_v115 main_v116 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)),
    binary main_v112 main_v116 main_v117 (Host.divf : (⟨S2048x1x1024, .f32⟩ : BufTy).Contents (Elt F) → (⟨S2048x1x1024, .f32⟩ : BufTy).Contents (Elt F) → (⟨S2048x1x1024, .f32⟩ : BufTy).Contents (Elt F)),
    unary main_arg15 main_v118 (broadcastInDim S1x1x1024 ![2] bcast_S1024_S1x1x1024_2 : (⟨S1024, .f32⟩ : BufTy).Contents (Elt F) → (⟨S1x1x1024, .f32⟩ : BufTy).Contents (Elt F)),
    unary main_v118 main_v119 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v117 main_v119 main_v120 (mulf : (⟨S2048x1x1024, .f32⟩ : BufTy).Contents (Elt F) → (⟨S2048x1x1024, .f32⟩ : BufTy).Contents (Elt F) → (⟨S2048x1x1024, .f32⟩ : BufTy).Contents (Elt F)),
    unary main_arg16 main_v121 (broadcastInDim S1x1x1024 ![2] bcast_S1024_S1x1x1024_2 : (⟨S1024, .f32⟩ : BufTy).Contents (Elt F) → (⟨S1x1x1024, .f32⟩ : BufTy).Contents (Elt F)),
    unary main_v121 main_v122 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v120 main_v122 main_v123 (addf : (⟨S2048x1x1024, .f32⟩ : BufTy).Contents (Elt F) → (⟨S2048x1x1024, .f32⟩ : BufTy).Contents (Elt F) → (⟨S2048x1x1024, .f32⟩ : BufTy).Contents (Elt F)) ]

/-- What `normQ` writes. -/
abbrev normQWrites : List (Ref sig .tc) := [main_cst_17, main_v106, main_v107, main_cst_18, main_v108, main_v109, main_c_19, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v110, main_v111, main_v112, main_cst_20, main_v113, main_v114, main_v115, main_v116, main_v117, main_v118, main_v119, main_v120, main_v121, main_v122, main_v123]

/-- The masked choice of rows. -/
abbrev pick : List (HloOp τ sig (Elt F)) :=
  [ unary main_arg1 main_v124 ((transpose S2048x1 [1, 0] · transposes_S1x2048_S2048x1_1_0) : (⟨S1x2048, .i1⟩ : BufTy).Contents (Elt F) → (⟨S2048x1, .i1⟩ : BufTy).Contents (Elt F)),
    unary main_v124 main_v125 (broadcastInDim S2048x1x1 ![0, 1] bcast_S2048x1_S2048x1x1_0_1 : (⟨S2048x1, .i1⟩ : BufTy).Contents (Elt F) → (⟨S2048x1x1, .i1⟩ : BufTy).Contents (Elt F)),
    TRef.unary (TRef.of (T := ⟨S2048x1x1, .i1⟩) main_v125) (TRef.of (T := ⟨S2048x1x1024, .i1⟩) main_call3_v0) (broadcastInDim S2048x1x1024 ![0, 1, 2] bcast_S2048x1x1_S2048x1x1024_0_1_2),
    TRef.ternary (TRef.of (T := ⟨S2048x1x1024, .i1⟩) main_call3_v0) (TRef.of (T := ⟨S2048x1x1024, .f32⟩) main_v123) (TRef.of (T := ⟨S2048x1x1024, .f32⟩) main_v58) (TRef.of (T := ⟨S2048x1x1024, .f32⟩) main_v126) select ]

/-- What `pick` writes. -/
abbrev pickWrites : List (Ref sig .tc) := [main_v124, main_v125, main_call3_v0, main_v126]

/-- The feed-forward network with its residual. -/
abbrev ffn : List (HloOp τ sig (Elt F)) :=
  [ binary main_v126 main_arg17 main_v127 ((fun l r => Host.dotGeneral dot_S2048x1x1024_S1024x4096_S2048x1x4096_2_0_01_1_n_n none l r) : (⟨S2048x1x1024, .f32⟩ : BufTy).Contents (Elt F) → (⟨S1024x4096, .f32⟩ : BufTy).Contents (Elt F) → (⟨S2048x1x4096, .f32⟩ : BufTy).Contents (Elt F)),
    unary main_arg18 main_v128 (broadcastInDim S1x1x4096 ![2] bcast_S4096_S1x1x4096_2 : (⟨S4096, .f32⟩ : BufTy).Contents (Elt F) → (⟨S1x1x4096, .f32⟩ : BufTy).Contents (Elt F)),
    unary main_v128 main_v129 (broadcastInDim S2048x1x4096 ![0, 1, 2] bcast_S1x1x4096_S2048x1x4096_0_1_2 : (⟨S1x1x4096, .f32⟩ : BufTy).Contents (Elt F) → (⟨S2048x1x4096, .f32⟩ : BufTy).Contents (Elt F)),
    binary main_v127 main_v129 main_v130 (addf : (⟨S2048x1x4096, .f32⟩ : BufTy).Contents (Elt F) → (⟨S2048x1x4096, .f32⟩ : BufTy).Contents (Elt F) → (⟨S2048x1x4096, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x1x4096, .f32⟩) main_call4_v0) (broadcastInDim S2048x1x4096 ![] bcast_S_S2048x1x4096),
    TRef.binary (TRef.of (T := ⟨S2048x1x4096, .f32⟩) main_v130) (TRef.of (T := ⟨S2048x1x4096, .f32⟩) main_call4_v0) (TRef.of (T := ⟨S2048x1x4096, .f32⟩) main_v131) maximumf,
    binary main_v131 main_arg19 main_v132 ((fun l r => Host.dotGeneral dot_S2048x1x4096_S4096x1024_S2048x1x1024_2_0_01_1_n_n none l r) : (⟨S2048x1x4096, .f32⟩ : BufTy).Contents (Elt F) → (⟨S4096x1024, .f32⟩ : BufTy).Contents (Elt F) → (⟨S2048x1x1024, .f32⟩ : BufTy).Contents (Elt F)),
    binary main_v126 main_v132 main_v133 (addf : (⟨S2048x1x1024, .f32⟩ : BufTy).Contents (Elt F) → (⟨S2048x1x1024, .f32⟩ : BufTy).Contents (Elt F) → (⟨S2048x1x1024, .f32⟩ : BufTy).Contents (Elt F)),
    unary main_arg20 main_v134 (broadcastInDim S1x1x1024 ![2] bcast_S1024_S1x1x1024_2 : (⟨S1024, .f32⟩ : BufTy).Contents (Elt F) → (⟨S1x1x1024, .f32⟩ : BufTy).Contents (Elt F)),
    unary main_v134 main_v135 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v133 main_v135 main_v136 (addf : (⟨S2048x1x1024, .f32⟩ : BufTy).Contents (Elt F) → (⟨S2048x1x1024, .f32⟩ : BufTy).Contents (Elt F) → (⟨S2048x1x1024, .f32⟩ : BufTy).Contents (Elt F)) ]

/-- What `ffn` writes. -/
abbrev ffnWrites : List (Ref sig .tc) := [main_v127, main_v128, main_v129, main_v130, main_call4_cst, main_call4_v0, main_v131, main_v132, main_v133, main_v134, main_v135, main_v136]

/-- The last normalisation, up to its offset, -/
abbrev normF : List (HloOp τ sig (Elt F)) :=
  [ nullary main_cst_21 (constant S_ .f32 0x00000000#32),
    binary main_v136 main_cst_21 main_v137 ((fun x v => Host.reduceAdd x v reducesTo_S2048x1x1024_S2048x1_d2 h_S_) : (⟨S2048x1x1024, .f32⟩ : BufTy).Contents (Elt F) → (⟨S_, .f32⟩ : BufTy).Contents (Elt F) → (⟨S2048x1, .f32⟩ : BufTy).Contents (Elt F)),
    unary main_v137 main_v138 (broadcastInDim S2048x1x1 ![0, 1] bcast_S2048x1_S2048x1x1_0_1 : (⟨S2048x1, .f32⟩ : BufTy).Contents (Elt F) → (⟨S2048x1x1, .f32⟩ : BufTy).Contents (Elt F)),
    nullary main_cst_22 (constant S_ .f32 0x44800000#32),
    unary main_cst_22 main_v139 (broadcastInDim S2048x1x1 ![] bcast_S_S2048x1x1 : (⟨S_, .f32⟩ : BufTy).Contents (Elt F) → (⟨S2048x1x1, .f32⟩ : BufTy).Contents (Elt F)),
    binary main_v138 main_v139 main_v140 (Host.divf : (⟨S2048x1x1, .f32⟩ : BufTy).Contents (Elt F) → (⟨S2048x1x1, .f32⟩ : BufTy).Contents (Elt F) → (⟨S2048x1x1, .f32⟩ : BufTy).Contents (Elt F)),
    nullary main_c_23 (constantI S_ 32 0#32),
    TRef.nullary (TRef.of (T := ⟨S_, .f32⟩) main_call5_cst) (constant S_ .f32 0x00000000#32),
    TRef.binary (TRef.of (T := ⟨S2048x1x1024, .f32⟩) main_v136) (TRef.of (T := ⟨S_, .f32⟩) main_call5_cst) (TRef.of (T := ⟨S2048x1, .f32⟩) main_call5_v0) (fun x v => Host.reduceAdd x v reducesTo_S2048x1x1024_S2048x1_d2 h_S_),
    TRef.unary (TRef.of (T := ⟨S2048x1, .f32⟩) main_call5_v0) (TRef.of (T := ⟨S2048x1x1, .f32⟩) main_call5_v1) (broadcastInDim S2048x1x1 ![0, 1] bcast_S2048x1_S2048x1x1_0_1),
    TRef.nullary (TRef.of (T := ⟨S_, .f32⟩) main_call5_cst_0) (constant S_ .f32 0x44800000#32),
    TRef.unary (TRef.of (T := ⟨S_, .f32⟩) main_call5_cst_0) (TRef.of (T := ⟨S2048x1x1, .f32⟩) main_call5_v2) (broadcastInDim S2048x1x1 ![] bcast_S_S2048x1x1),
    TRef.binary (TRef.of (T := ⟨S2048x1x1, .f32⟩) main_call5_v1) (TRef.of (T := ⟨S2048x1x1, .f32⟩) main_call5_v2) (TRef.of (T := ⟨S2048x1x1, .f32⟩) main_call5_v3) Host.divf,
    TRef.unary (TRef.of (T := ⟨S2048x1x1, .f32⟩) main_call5_v3) (TRef.of (T := ⟨S2048x1x1024, .f32⟩) main_call5_v4) (broadcastInDim S2048x1x1024 ![0, 1, 2] bcast_S2048x1x1_S2048x1x1024_0_1_2),
    TRef.binary (TRef.of (T := ⟨S2048x1x1024, .f32⟩) main_v136) (TRef.of (T := ⟨S2048x1x1024, .f32⟩) main_call5_v4) (TRef.of (T := ⟨S2048x1x1024, .f32⟩) main_call5_v5) subf,
    TRef.binary (TRef.of (T := ⟨S2048x1x1024, .f32⟩) main_call5_v5) (TRef.of (T := ⟨S2048x1x1024, .f32⟩) main_call5_v5) (TRef.of (T := ⟨S2048x1x1024, .f32⟩) main_call5_v6) mulf,
    TRef.unary (TRef.of (T := ⟨S_, .i32⟩) main_c_23) (TRef.of (T := ⟨S_, .f32⟩) main_call5_v7) (sitofp .f32),
    TRef.nullary (TRef.of (T := ⟨S_, .f32⟩) main_call5_cst_1) (constant S_ .f32 0x44800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S2048x1x1024, .f32⟩) main_call5_v6) (TRef.of (T := ⟨S_, .f32⟩) main_call5_cst_2) (TRef.of (T := ⟨S2048x1, .f32⟩) main_call5_v9) (fun x v => Host.reduceAdd x v reducesTo_S2048x1x1024_S2048x1_d2 h_S_),
    TRef.unary (TRef.of (T := ⟨S2048x1, .f32⟩) main_call5_v9) (TRef.of (T := ⟨S2048x1x1, .f32⟩) main_call5_v10) (broadcastInDim S2048x1x1 ![0, 1] bcast_S2048x1_S2048x1x1_0_1),
    TRef.unary (TRef.of (T := ⟨S_, .f32⟩) main_call5_v8) (TRef.of (T := ⟨S2048x1x1, .f32⟩) main_call5_v11) (broadcastInDim S2048x1x1 ![] bcast_S_S2048x1x1),
    TRef.binary (TRef.of (T := ⟨S2048x1x1, .f32⟩) main_call5_v10) (TRef.of (T := ⟨S2048x1x1, .f32⟩) main_call5_v11) (TRef.of (T := ⟨S2048x1x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S2048x1x1, .f32⟩) main_call5_call0_v1) (broadcastInDim S2048x1x1 ![] bcast_S_S2048x1x1),
    TRef.ternary (TRef.of (T := ⟨S_, .i1⟩) main_call5_v13) (TRef.of (T := ⟨S2048x1x1, .f32⟩) main_call5_v12) (TRef.of (T := ⟨S2048x1x1, .f32⟩) main_call5_call0_v1) (TRef.of (T := ⟨S2048x1x1, .f32⟩) main_v141) (fun p a b => select (broadcastInDim S2048x1x1 ![] bcast_S_S2048x1x1 p) a b),
    unary main_v140 main_v142 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)),
    binary main_v136 main_v142 main_v143 (subf : (⟨S2048x1x1024, .f32⟩ : BufTy).Contents (Elt F) → (⟨S2048x1x1024, .f32⟩ : BufTy).Contents (Elt F) → (⟨S2048x1x1024, .f32⟩ : BufTy).Contents (Elt F)),
    nullary main_cst_24 (constant S_ .f32 0x3727C5AC#32),
    unary main_cst_24 main_v144 (broadcastInDim S2048x1x1 ![] bcast_S_S2048x1x1 : (⟨S_, .f32⟩ : BufTy).Contents (Elt F) → (⟨S2048x1x1, .f32⟩ : BufTy).Contents (Elt F)),
    binary main_v141 main_v144 main_v145 (addf : (⟨S2048x1x1, .f32⟩ : BufTy).Contents (Elt F) → (⟨S2048x1x1, .f32⟩ : BufTy).Contents (Elt F) → (⟨S2048x1x1, .f32⟩ : BufTy).Contents (Elt F)),
    unary main_v145 main_v146 (Host.sqrt : (⟨S2048x1x1, .f32⟩ : BufTy).Contents (Elt F) → (⟨S2048x1x1, .f32⟩ : BufTy).Contents (Elt F)),
    unary main_v146 main_v147 (broadcastInDim S2048x1x1024 ![0, 1, 2] bcast_S2048x1x1_S2048x1x1024_0_1_2 : (⟨S2048x1x1, .f32⟩ : BufTy).Contents (Elt F) → (⟨S2048x1x1024, .f32⟩ : BufTy).Contents (Elt F)),
    binary main_v143 main_v147 main_v148 (Host.divf : (⟨S2048x1x1024, .f32⟩ : BufTy).Contents (Elt F) → (⟨S2048x1x1024, .f32⟩ : BufTy).Contents (Elt F) → (⟨S2048x1x1024, .f32⟩ : BufTy).Contents (Elt F)),
    unary main_arg21 main_v149 (broadcastInDim S1x1x1024 ![2] bcast_S1024_S1x1x1024_2 : (⟨S1024, .f32⟩ : BufTy).Contents (Elt F) → (⟨S1x1x1024, .f32⟩ : BufTy).Contents (Elt F)),
    unary main_v149 main_v150 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v148 main_v150 main_v151 (mulf : (⟨S2048x1x1024, .f32⟩ : BufTy).Contents (Elt F) → (⟨S2048x1x1024, .f32⟩ : BufTy).Contents (Elt F) → (⟨S2048x1x1024, .f32⟩ : BufTy).Contents (Elt F)),
    unary main_arg22 main_v152 (broadcastInDim S1x1x1024 ![2] bcast_S1024_S1x1x1024_2 : (⟨S1024, .f32⟩ : BufTy).Contents (Elt F) → (⟨S1x1x1024, .f32⟩ : BufTy).Contents (Elt F)) ]

/-- What `normF` writes. -/
abbrev normFWrites : List (Ref sig .tc) := [main_cst_21, main_v137, main_v138, main_cst_22, main_v139, main_v140, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v141, main_v142, main_v143, main_cst_24, main_v144, main_v145, main_v146, main_v147, main_v148, main_v149, main_v150, main_v151, main_v152]

/-- and its end. -/
abbrev normG : List (HloOp τ sig (Elt F)) :=
  [ unary main_v152 main_v153 (broadcastInDim S2048x1x1024 ![0, 1, 2] bcast_S1x1x1024_S2048x1x1024_0_1_2 : (⟨S1x1x1024, .f32⟩ : BufTy).Contents (Elt F) → (⟨S2048x1x1024, .f32⟩ : BufTy).Contents (Elt F)),
    binary main_v151 main_v153 main_v154 (addf : (⟨S2048x1x1024, .f32⟩ : BufTy).Contents (Elt F) → (⟨S2048x1x1024, .f32⟩ : BufTy).Contents (Elt F) → (⟨S2048x1x1024, .f32⟩ : BufTy).Contents (Elt F)) ]

/-- What `normG` writes. -/
abbrev normGWrites : List (Ref sig .tc) := [main_v153, main_v154]

theorem heads_writes : (heads : List (HloOp τ sig (Elt F))).Forall fun op => op.writes ⊆ (headsWrites.map (Proc.devRef (τ := τ) .tc)).toFinset :=
  forall_writes_sub_of_map rfl
/-- A buffer that `heads` does not write is kept by it. -/
theorem heads_keep (V : Valuation τ sig (Elt F)) (r : Ref sig .tc) (h : r ∉ headsWrites) : after heads V (Proc.devRef .tc r) = V (Proc.devRef .tc r) :=
  after_of_writes_sub heads _ heads_writes h
theorem heads_bufs : (heads : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., unary_bufs_sub ..⟩
theorem heads_fresh : (heads : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem attention_writes : (attention : List (HloOp τ sig (Elt F))).Forall fun op => op.writes ⊆ (attentionWrites.map (Proc.devRef (τ := τ) .tc)).toFinset :=
  forall_writes_sub_of_map rfl
/-- A buffer that `attention` does not write is kept by it. -/
theorem attention_keep (V : Valuation τ sig (Elt F)) (r : Ref sig .tc) (h : r ∉ attentionWrites) : after attention V (Proc.devRef .tc r) = V (Proc.devRef .tc r) :=
  after_of_writes_sub attention _ attention_writes h
theorem attention_bufs : (attention : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub ..⟩
theorem attention_fresh : (attention : List (HloOp τ sig (Elt F))).Forall fun op => op.fresh = ∅ :=
  ⟨rfl, rfl, rfl, rfl, rfl, rfl, rfl, rfl, rfl, rfl, rfl, rfl, rfl, rfl, rfl, rfl, rfl, rfl⟩

theorem project_writes : (project : List (HloOp τ sig (Elt F))).Forall fun op => op.writes ⊆ (projectWrites.map (Proc.devRef (τ := τ) .tc)).toFinset :=
  forall_writes_sub_of_map rfl
/-- A buffer that `project` does not write is kept by it. -/
theorem project_keep (V : Valuation τ sig (Elt F)) (r : Ref sig .tc) (h : r ∉ projectWrites) : after project V (Proc.devRef .tc r) = V (Proc.devRef .tc r) :=
  after_of_writes_sub project _ project_writes h
theorem project_bufs : (project : List (HloOp τ sig (Elt F))).Forall fun op => op.bufs ⊆ tcRefs τ sig :=
  ⟨binary_bufs_sub .., unary_bufs_sub .., unary_bufs_sub .., binary_bufs_sub .., binary_bufs_sub ..⟩
theorem project_fresh : (project : List (HloOp τ sig (Elt F))).Forall fun op => op.fresh = ∅ :=
  ⟨rfl, rfl, rfl, rfl, rfl⟩

theorem normA_writes : (normA : List (HloOp τ sig (Elt F))).Forall fun op => op.writes ⊆ (normAWrites.map (Proc.devRef (τ := τ) .tc)).toFinset :=
  forall_writes_sub_of_map rfl
/-- A buffer that `normA` does not write is kept by it. -/
theorem normA_keep (V : Valuation τ sig (Elt F)) (r : Ref sig .tc) (h : r ∉ normAWrites) : after normA V (Proc.devRef .tc r) = V (Proc.devRef .tc r) :=
  after_of_writes_sub normA _ normA_writes h
theorem normA_bufs : (normA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub ..⟩
theorem normA_fresh : (normA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem normB_writes : (normB : List (HloOp τ sig (Elt F))).Forall fun op => op.writes ⊆ (normBWrites.map (Proc.devRef (τ := τ) .tc)).toFinset :=
  forall_writes_sub_of_map rfl
/-- A buffer that `normB` does not write is kept by it. -/
theorem normB_keep (V : Valuation τ sig (Elt F)) (r : Ref sig .tc) (h : r ∉ normBWrites) : after normB V (Proc.devRef .tc r) = V (Proc.devRef .tc r) :=
  after_of_writes_sub normB _ normB_writes h
theorem normB_bufs : (normB : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub ..⟩
theorem normB_fresh : (normB : List (HloOp τ sig (Elt F))).Forall fun op => op.fresh = ∅ :=
  ⟨rfl, rfl, rfl, rfl, rfl, rfl, rfl⟩

theorem distances_writes : (distances : List (HloOp τ sig (Elt F))).Forall fun op => op.writes ⊆ (distancesWrites.map (Proc.devRef (τ := τ) .tc)).toFinset :=
  forall_writes_sub_of_map rfl
/-- A buffer that `distances` does not write is kept by it. -/
theorem distances_keep (V : Valuation τ sig (Elt F)) (r : Ref sig .tc) (h : r ∉ distancesWrites) : after distances V (Proc.devRef .tc r) = V (Proc.devRef .tc r) :=
  after_of_writes_sub distances _ distances_writes h
theorem distances_bufs : (distances : List (HloOp τ sig (Elt F))).Forall fun op => op.bufs ⊆ tcRefs τ sig :=
  ⟨binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem distances_fresh : (distances : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem nearest_writes : (nearest : List (HloOp τ sig (Elt F))).Forall fun op => op.writes ⊆ (nearestWrites.map (Proc.devRef (τ := τ) .tc)).toFinset :=
  forall_writes_sub_of_map rfl
/-- A buffer that `nearest` does not write is kept by it. -/
theorem nearest_keep (V : Valuation τ sig (Elt F)) (r : Ref sig .tc) (h : r ∉ nearestWrites) : after nearest V (Proc.devRef .tc r) = V (Proc.devRef .tc r) :=
  after_of_writes_sub nearest _ nearest_writes h
theorem nearest_bufs : (nearest : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub ..⟩
theorem nearest_fresh : (nearest : List (HloOp τ sig (Elt F))).Forall fun op => op.fresh = ∅ :=
  ⟨rfl, rfl, rfl, rfl, rfl, rfl, rfl, rfl, rfl, rfl, rfl, rfl, rfl, rfl⟩

theorem loss_writes : (loss : List (HloOp τ sig (Elt F))).Forall fun op => op.writes ⊆ (lossWrites.map (Proc.devRef (τ := τ) .tc)).toFinset :=
  forall_writes_sub_of_map rfl
/-- A buffer that `loss` does not write is kept by it. -/
theorem loss_keep (V : Valuation τ sig (Elt F)) (r : Ref sig .tc) (h : r ∉ lossWrites) : after loss V (Proc.devRef .tc r) = V (Proc.devRef .tc r) :=
  after_of_writes_sub loss _ loss_writes h
theorem loss_bufs : (loss : List (HloOp τ sig (Elt F))).Forall fun op => op.bufs ⊆ tcRefs τ sig :=
  ⟨binary_bufs_sub .., binary_bufs_sub .., reshape_bufs_sub .., unary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩
theorem loss_fresh : (loss : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem maskCol_writes : (maskCol : List (HloOp τ sig (Elt F))).Forall fun op => op.writes ⊆ (maskColWrites.map (Proc.devRef (τ := τ) .tc)).toFinset :=
  forall_writes_sub_of_map rfl
/-- A buffer that `maskCol` does not write is kept by it. -/
theorem maskCol_keep (V : Valuation τ sig (Elt F)) (r : Ref sig .tc) (h : r ∉ maskColWrites) : after maskCol V (Proc.devRef .tc r) = V (Proc.devRef .tc r) :=
  after_of_writes_sub maskCol _ maskCol_writes h
theorem maskCol_bufs : (maskCol : List (HloOp τ sig (Elt F))).Forall fun op => op.bufs ⊆ tcRefs τ sig :=
  ⟨unary_bufs_sub .., unary_bufs_sub ..⟩
theorem maskCol_fresh : (maskCol : List (HloOp τ sig (Elt F))).Forall fun op => op.fresh = ∅ :=
  ⟨rfl, rfl⟩

theorem embed_writes : (embed : List (HloOp τ sig (Elt F))).Forall fun op => op.writes ⊆ (embedWrites.map (Proc.devRef (τ := τ) .tc)).toFinset :=
  forall_writes_sub_of_map rfl
/-- A buffer that `embed` does not write is kept by it. -/
theorem embed_keep (V : Valuation τ sig (Elt F)) (r : Ref sig .tc) (h : r ∉ embedWrites) : after embed V (Proc.devRef .tc r) = V (Proc.devRef .tc r) :=
  after_of_writes_sub embed _ embed_writes h
theorem embed_bufs : (embed : List (HloOp τ sig (Elt F))).Forall fun op => op.bufs ⊆ tcRefs τ sig :=
  ⟨binary_bufs_sub .., reshape_bufs_sub .., binary_bufs_sub .., unary_bufs_sub .., binary_bufs_sub ..⟩
theorem embed_fresh : (embed : List (HloOp τ sig (Elt F))).Forall fun op => op.fresh = ∅ :=
  ⟨rfl, rfl, rfl, rfl, rfl⟩

theorem normQ_writes : (normQ : List (HloOp τ sig (Elt F))).Forall fun op => op.writes ⊆ (normQWrites.map (Proc.devRef (τ := τ) .tc)).toFinset :=
  forall_writes_sub_of_map rfl
/-- A buffer that `normQ` does not write is kept by it. -/
theorem normQ_keep (V : Valuation τ sig (Elt F)) (r : Ref sig .tc) (h : r ∉ normQWrites) : after normQ V (Proc.devRef .tc r) = V (Proc.devRef .tc r) :=
  after_of_writes_sub normQ _ normQ_writes h
theorem normQ_bufs : (normQ : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem normQ_fresh : (normQ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pick_writes : (pick : List (HloOp τ sig (Elt F))).Forall fun op => op.writes ⊆ (pickWrites.map (Proc.devRef (τ := τ) .tc)).toFinset :=
  forall_writes_sub_of_map rfl
/-- A buffer that `pick` does not write is kept by it. -/
theorem pick_keep (V : Valuation τ sig (Elt F)) (r : Ref sig .tc) (h : r ∉ pickWrites) : after pick V (Proc.devRef .tc r) = V (Proc.devRef .tc r) :=
  after_of_writes_sub pick _ pick_writes h
theorem pick_bufs : (pick : List (HloOp τ sig (Elt F))).Forall fun op => op.bufs ⊆ tcRefs τ sig :=
  ⟨unary_bufs_sub .., unary_bufs_sub .., unary_bufs_sub .., ternary_bufs_sub ..⟩
theorem pick_fresh : (pick : List (HloOp τ sig (Elt F))).Forall fun op => op.fresh = ∅ :=
  ⟨rfl, rfl, rfl, rfl⟩

theorem ffn_writes : (ffn : List (HloOp τ sig (Elt F))).Forall fun op => op.writes ⊆ (ffnWrites.map (Proc.devRef (τ := τ) .tc)).toFinset :=
  forall_writes_sub_of_map rfl
/-- A buffer that `ffn` does not write is kept by it. -/
theorem ffn_keep (V : Valuation τ sig (Elt F)) (r : Ref sig .tc) (h : r ∉ ffnWrites) : after ffn V (Proc.devRef .tc r) = V (Proc.devRef .tc r) :=
  after_of_writes_sub ffn _ ffn_writes h
theorem ffn_bufs : (ffn : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
theorem ffn_fresh : (ffn : List (HloOp τ sig (Elt F))).Forall fun op => op.fresh = ∅ :=
  ⟨rfl, rfl, rfl, rfl, rfl, rfl, rfl, rfl, rfl, rfl, rfl, rfl⟩

theorem normF_writes : (normF : List (HloOp τ sig (Elt F))).Forall fun op => op.writes ⊆ (normFWrites.map (Proc.devRef (τ := τ) .tc)).toFinset :=
  forall_writes_sub_of_map rfl
/-- A buffer that `normF` does not write is kept by it. -/
theorem normF_keep (V : Valuation τ sig (Elt F)) (r : Ref sig .tc) (h : r ∉ normFWrites) : after normF V (Proc.devRef .tc r) = V (Proc.devRef .tc r) :=
  after_of_writes_sub normF _ normF_writes h
theorem normF_bufs : (normF : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩
theorem normF_fresh : (normF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem normG_writes : (normG : List (HloOp τ sig (Elt F))).Forall fun op => op.writes ⊆ (normGWrites.map (Proc.devRef (τ := τ) .tc)).toFinset :=
  forall_writes_sub_of_map rfl
/-- A buffer that `normG` does not write is kept by it. -/
theorem normG_keep (V : Valuation τ sig (Elt F)) (r : Ref sig .tc) (h : r ∉ normGWrites) : after normG V (Proc.devRef .tc r) = V (Proc.devRef .tc r) :=
  after_of_writes_sub normG _ normG_writes h
theorem normG_bufs : (normG : List (HloOp τ sig (Elt F))).Forall fun op => op.bufs ⊆ tcRefs τ sig :=
  ⟨unary_bufs_sub .., binary_bufs_sub ..⟩
theorem normG_fresh : (normG : List (HloOp τ sig (Elt F))).Forall fun op => op.fresh = ∅ :=
  ⟨rfl, rfl⟩

/-- The program's window 0. -/
def window0 : List (HloOp τ sig (Elt F)) :=
  heads ++ (attention ++ (project ++ (normA)))

set_option maxHeartbeats 4000000 in
theorem part0_eq (c : Dev nD) : main_part0 (F := F) c = seq window0 := rfl

/-- The program's window 1. -/
def window1 : List (HloOp τ sig (Elt F)) :=
  normB ++ (distances ++ (nearest ++ (loss ++ (maskCol))))

set_option maxHeartbeats 4000000 in
theorem part1_eq (c : Dev nD) : main_part1 (F := F) c = seq window1 := rfl

/-- The program's window 2. -/
def window2 : List (HloOp τ sig (Elt F)) :=
  embed ++ (normQ ++ (pick ++ (ffn ++ (normF))))

set_option maxHeartbeats 4000000 in
theorem part2_eq (c : Dev nD) : main_part2 (F := F) c = seq window2 := rfl

/-- The program's window 3. -/
def window3 : List (HloOp τ sig (Elt F)) :=
  normG

set_option maxHeartbeats 4000000 in
theorem part3_eq (c : Dev nD) : main_part3 (F := F) c = seq window3 := rfl

/-- The whole program. -/
abbrev program : List (HloOp τ sig (Elt F)) :=
  window0 ++ (window1 ++ (window2 ++ (window3)))

theorem main_eq (c : Dev nD) : main (F := F) c = seq program := by
  simp only [program, seq_append, ← part0_eq c, ← part1_eq c, ← part2_eq c, ← part3_eq c]
  rfl

/-- A property of every stage's operations is one of every operation of the program. -/
theorem forall_program (p : HloOp τ sig (Elt F) → Prop) (h0 : (heads : List (HloOp τ sig (Elt F))).Forall p) (h1 : (attention : List (HloOp τ sig (Elt F))).Forall p) (h2 : (project : List (HloOp τ sig (Elt F))).Forall p) (h3 : (normA : List (HloOp τ sig (Elt F))).Forall p) (h4 : (normB : List (HloOp τ sig (Elt F))).Forall p) (h5 : (distances : List (HloOp τ sig (Elt F))).Forall p) (h6 : (nearest : List (HloOp τ sig (Elt F))).Forall p) (h7 : (loss : List (HloOp τ sig (Elt F))).Forall p) (h8 : (maskCol : List (HloOp τ sig (Elt F))).Forall p) (h9 : (embed : List (HloOp τ sig (Elt F))).Forall p) (h10 : (normQ : List (HloOp τ sig (Elt F))).Forall p) (h11 : (pick : List (HloOp τ sig (Elt F))).Forall p) (h12 : (ffn : List (HloOp τ sig (Elt F))).Forall p) (h13 : (normF : List (HloOp τ sig (Elt F))).Forall p) (h14 : (normG : List (HloOp τ sig (Elt F))).Forall p) :
    (program : List (HloOp τ sig (Elt F))).Forall p := by
  simp only [List.forall_iff_forall_mem] at *
  intro op h
  simp only [program, window0, window1, window2, window3, List.mem_append, or_assoc] at h
  rcases h with h | h | h | h | h | h | h | h | h | h | h | h | h | h | h
  exacts [h0 op h, h1 op h, h2 op h, h3 op h, h4 op h, h5 op h, h6 op h, h7 op h, h8 op h, h9 op h, h10 op h, h11 op h, h12 op h, h13 op h, h14 op h]

/-- What the program leaves, stage after stage. -/
theorem after_program (V : Valuation τ sig (Elt F)) :
    after program V = after normG (after normF (after ffn (after pick (after normQ (after embed (after maskCol (after loss (after nearest (after distances (after normB (after normA (after project (after attention (after heads (V))))))))))))))) := by
  simp only [program, window0, window1, window2, window3, after_append]

theorem noScopedRefs : (Finset.univ.filter fun b : Ref sig .tc => b.isScoped) = ∅ := by decide
theorem noScopedSems : (Finset.univ.filter fun sm : SemLoc sig => sm.isScoped .tc) = ∅ := by decide

/-- Every run of the reference ends with each buffer at what the program leaves there. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after program (launchContents m c) (Proc.devRef .tc b) :=
  (θ_run defs _ _).mono (fun _ h c b => h c b)
    (run_seq noScopedRefs noScopedSems defs main (fun _ => program) main_eq (fun _ => forall_program _ heads_bufs attention_bufs project_bufs normA_bufs normB_bufs distances_bufs nearest_bufs loss_bufs maskCol_bufs embed_bufs normQ_bufs pick_bufs ffn_bufs normF_bufs normG_bufs) m ρ
      fun _ => List.forall_iff_forall_mem.mp (forall_program _ heads_fresh attention_fresh project_fresh normA_fresh normB_fresh distances_fresh nearest_fresh loss_fresh maskCol_fresh embed_fresh normQ_fresh pick_fresh ffn_fresh normF_fresh normG_fresh))

end Cert.Reference

end
-- ==== Proof.Reference.Values.lean ====
/- What each stage of the reference leaves, in the terms of the layer's mathematics. -/
module

public import proofs.«01_k».proof.Proof.Reference.Program
public import proofs.«01_k».proof.Proof.Layer
public import Idealize.ShloMosaic.Lib.Pointwise
public import Idealize.ShloMosaic.Lib.Claim
public import Idealize.ShloMosaic.Lib.ValueIdx
public import Idealize.ShloMosaic.Lib.Tactic.CleanTypes
public import Idealize.ShloMosaic.PureOps.Ideal.Laws

@[expose] public section

set_option maxRecDepth 16384

noncomputable section

namespace Cert.Reference

open Cert.ReferenceIdeal Cert.ReferenceIdeal.Gen Idealize.ShloMosaic Idealize.ShloMosaic.TcCoe Idealize.SL.Sem Idealize.ShloMosaic.StableHlo Cert.Proof

variable (V : Valuation τ sig (Elt Ideal))

/-- The reference's arguments as rows and matrices. -/
def paramsOf : Params := Params.ofArrays (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))

theorem max_fold_max {n : Nat} (f : Fin n → EReal) (b : EReal) : max b (Finset.univ.fold max b f) = Finset.univ.fold max b f :=
  max_eq_right ((Finset.le_fold_max b).2 (Or.inl le_rfl))

/-- Queries, head by head. -/
theorem heads_q  (h : Fin 16) (r : Fin 2048) (d : Fin 64) :
    (after heads V (Proc.devRef .tc main_v15) (ix3 h r d) : EReal) = (paramsOf V).q r (col h d) := by
  simp only [heads, List.cons_append, List.nil_append, TRef.nullary, TRef.unary, TRef.binary, TRef.ternary, TRef.quaternary, TRef.toBuf, TRef.ofBuf, cast_eq]
  after_results_simp
  pointwise
  rfl

/-- Keys, transposed. -/
theorem heads_k  (h : Fin 16) (r : Fin 2048) (d : Fin 64) :
    (after heads V (Proc.devRef .tc main_v20) (ix3 h d r) : EReal) = (paramsOf V).k r (col h d) := by
  simp only [heads, List.cons_append, List.nil_append, TRef.nullary, TRef.unary, TRef.binary, TRef.ternary, TRef.quaternary, TRef.toBuf, TRef.ofBuf, cast_eq]
  after_results_simp
  pointwise
  rfl

/-- Values. -/
theorem heads_v  (h : Fin 16) (r : Fin 2048) (d : Fin 64) :
    (after heads V (Proc.devRef .tc main_v19) (ix3 h r d) : EReal) = (paramsOf V).v r (col h d) := by
  simp only [heads, List.cons_append, List.nil_append, TRef.nullary, TRef.unary, TRef.binary, TRef.ternary, TRef.quaternary, TRef.toBuf, TRef.ofBuf, cast_eq]
  after_results_simp
  pointwise
  rfl

/-- Attention in four parts: scores with their greatest, twice; weights; the average. -/
abbrev attentionA : List (HloOp τ sig (Elt Ideal)) := attention.take 3
abbrev attentionM : List (HloOp τ sig (Elt Ideal)) := (attention.drop 3).take 3
abbrev attentionB : List (HloOp τ sig (Elt Ideal)) := (attention.drop 6).take 4
abbrev attentionC : List (HloOp τ sig (Elt Ideal)) := attention.drop 10
theorem attention_parts : after attention V = after attentionC (after attentionB (after attentionM (after attentionA V))) := rfl

/-- The scores. -/
theorem attentionA_score {q k : Fin 2048 → Fin 1024 → EReal}
    (hq : ∀ h r d, (V (Proc.devRef .tc main_v15) (ix3 h r d) : EReal) = q r (col h d))
    (hk : ∀ h d t, (V (Proc.devRef .tc main_v20) (ix3 h d t) : EReal) = k t (col h d)) (h : Fin 16) (r t : Fin 2048) :
    (after attentionA V (Proc.devRef .tc main_v21) (ix3 h r t) : EReal) = score q k h r t := by
  simp only [attentionA, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp
  pointwise
  simp only [hq, hk]
  rfl

/-- The greatest score of a row. -/
theorem attentionA_max {q k : Fin 2048 → Fin 1024 → EReal}
    (hq : ∀ h r d, (V (Proc.devRef .tc main_v15) (ix3 h r d) : EReal) = q r (col h d))
    (hk : ∀ h d t, (V (Proc.devRef .tc main_v20) (ix3 h d t) : EReal) = k t (col h d)) (h : Fin 16) (r : Fin 2048) :
    (after attentionA V (Proc.devRef .tc main_v22) (ix2 h r) : EReal) = Finset.univ.fold max cBot (score q k h r) := by
  simp only [attentionA, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp
  pointwise
  simp only [hq, hk]
  rfl

/-- The same again, no less than minus infinity. -/
theorem attentionM_max {g : Fin 16 → Fin 2048 → EReal}
    (hg : ∀ h r, (V (Proc.devRef .tc main_v22) (ix2 h r) : EReal) = g h r) (h : Fin 16) (r : Fin 2048) :
    (after attentionM V (Proc.devRef .tc main_v24) (ix2 h r) : EReal) = max cBot (g h r) := by
  simp only [attentionM, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp
  pointwise
  simp only [hg]

/-- The weights. -/
theorem attentionB_weight {s : Fin 16 → Fin 2048 → Fin 2048 → EReal} {g : Fin 16 → Fin 2048 → EReal}
    (hs : ∀ h r t, (V (Proc.devRef .tc main_v21) (ix3 h r t) : EReal) = s h r t) (hg : ∀ h r, (V (Proc.devRef .tc main_v24) (ix2 h r) : EReal) = g h r) (h : Fin 16) (r t : Fin 2048) :
    (after attentionB V (Proc.devRef .tc main_v28) (ix3 h r t) : EReal) = Ideal.exp (s h r t - g h r) := by
  simp only [attentionB, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp
  pointwise
  simp only [hs, hg]

/-- The average of the values under the normalised weights. -/
theorem attentionC_value {w : Fin 16 → Fin 2048 → Fin 2048 → EReal} {v : Fin 2048 → Fin 1024 → EReal}
    (hw : ∀ h r t, (V (Proc.devRef .tc main_v28) (ix3 h r t) : EReal) = w h r t) (hv : ∀ h t d, (V (Proc.devRef .tc main_v19) (ix3 h t d) : EReal) = v t (col h d)) (r : Fin 2048) (c : Fin 1024) :
    (after attentionC V (Proc.devRef .tc main_v35) (ix3 r 0 c) : EReal) = ∑ t, Ideal.div (w (headOf c) r t) (∑ t, w (headOf c) r t) * v t c := by
  simp only [attentionC, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp
  pointwise
  simp only [hw, hv]
  have hc : col (headOf c) ⟨c % 64, by omega⟩ = c := Fin.ext (by simp only [col, headOf]; omega)
  exact congrArg (fun e : Fin 1024 => (∑ t, Ideal.div (w (headOf c) r t) (∑ t, w (headOf c) r t) * v t e : EReal)) hc

/-- The values are kept. -/
theorem attentionA_keep  (h : Fin 16) (t : Fin 2048) (d : Fin 64) :
    (after attentionA V (Proc.devRef .tc main_v19) (ix3 h t d) : EReal) = V (Proc.devRef .tc main_v19) (ix3 h t d) := by
  simp only [attentionA, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp

/-- The values are kept. -/
theorem attentionM_keep  (h : Fin 16) (t : Fin 2048) (d : Fin 64) :
    (after attentionM V (Proc.devRef .tc main_v19) (ix3 h t d) : EReal) = V (Proc.devRef .tc main_v19) (ix3 h t d) := by
  simp only [attentionM, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp

/-- The values are kept. -/
theorem attentionB_keep  (h : Fin 16) (t : Fin 2048) (d : Fin 64) :
    (after attentionB V (Proc.devRef .tc main_v19) (ix3 h t d) : EReal) = V (Proc.devRef .tc main_v19) (ix3 h t d) := by
  simp only [attentionB, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp

/-- The scores are kept. -/
theorem attentionM_scores  (h : Fin 16) (r t : Fin 2048) :
    (after attentionM V (Proc.devRef .tc main_v21) (ix3 h r t) : EReal) = V (Proc.devRef .tc main_v21) (ix3 h r t) := by
  simp only [attentionM, attention, List.take_succ_cons, List.take_zero, List.drop_succ_cons, List.drop_zero, List.cons_append, List.nil_append, TRef.nullary, TRef.unary, TRef.binary, TRef.ternary, TRef.quaternary, TRef.toBuf, TRef.ofBuf, cast_eq]
  after_results_simp

/-- Attention from queries, keys and values. -/
theorem attention_value {q k v : Fin 2048 → Fin 1024 → EReal}
    (hq : ∀ h r d, (V (Proc.devRef .tc main_v15) (ix3 h r d) : EReal) = q r (col h d))
    (hk : ∀ h d t, (V (Proc.devRef .tc main_v20) (ix3 h d t) : EReal) = k t (col h d))
    (hv : ∀ h t d, (V (Proc.devRef .tc main_v19) (ix3 h t d) : EReal) = v t (col h d)) (r : Fin 2048) (c : Fin 1024) :
    (after attention V (Proc.devRef .tc main_v35) (ix3 r 0 c) : EReal) = attend q k v r c :=
  (congrArg (fun W : Valuation τ sig (Elt Ideal) => (W (Proc.devRef .tc main_v35) (ix3 r 0 c) : EReal)) (attention_parts V)).trans
    (attentionC_value _ (attentionB_weight _ (fun h r t => (attentionM_scores _ h r t).trans (attentionA_score V hq hk h r t))
        (fun h r => (attentionM_max _ (attentionA_max V hq hk) h r).trans (max_fold_max _ _)))
      (fun h t d => (attentionB_keep _ h t d).trans ((attentionM_keep _ h t d).trans ((attentionA_keep V h t d).trans (hv h t d)))) r c)

/-- The output projection with its residual. -/
theorem project_value {a : Fin 2048 → Fin 1024 → EReal}
    (ha : ∀ r c, (V (Proc.devRef .tc main_v35) (ix3 r 0 c) : EReal) = a r c) (r : Fin 2048) (c : Fin 1024) :
    (after project V (Proc.devRef .tc main_v40) (ix3 r 0 c) : EReal) = (paramsOf V).x r c + dense (a r) (paramsOf V).Wo (paramsOf V).bo c := by
  simp only [project, List.cons_append, List.nil_append, TRef.nullary, TRef.unary, TRef.binary, TRef.ternary, TRef.quaternary, TRef.toBuf, TRef.ofBuf, cast_eq]
  after_results_simp
  pointwise
  simp only [ha]
  rfl

/-- A normalisation. -/
theorem normA_value {y : Fin 2048 → Fin 1024 → EReal}
    (hy : ∀ r c, (V (Proc.devRef .tc main_v40) (ix3 r 0 c) : EReal) = y r c) (r : Fin 2048) (c : Fin 1024) :
    (after normB (after normA V) (Proc.devRef .tc main_v58) (ix3 r 0 c) : EReal) = layerNorm (y r) (paramsOf V).g1 (paramsOf V).o1 c := by
  simp only [normA, normB, List.cons_append, List.nil_append, TRef.nullary, TRef.unary, TRef.binary, TRef.ternary, TRef.quaternary, TRef.toBuf, TRef.ofBuf, cast_eq]
  after_results_simp
  pointwise
  rw [cN_sub_zero, if_pos cN_pos]
  simp only [hy]
  rfl

/-- A normalisation. -/
theorem normQ_value {y : Fin 2048 → Fin 1024 → EReal}
    (hy : ∀ r c, (V (Proc.devRef .tc main_v105) (ix3 r 0 c) : EReal) = y r c) (r : Fin 2048) (c : Fin 1024) :
    (after normQ V (Proc.devRef .tc main_v123) (ix3 r 0 c) : EReal) = layerNorm (y r) (paramsOf V).gq (paramsOf V).oq c := by
  simp only [normQ, List.cons_append, List.nil_append, TRef.nullary, TRef.unary, TRef.binary, TRef.ternary, TRef.quaternary, TRef.toBuf, TRef.ofBuf, cast_eq]
  after_results_simp
  pointwise
  rw [cN_sub_zero, if_pos cN_pos]
  simp only [hy]
  rfl

/-- A normalisation. -/
theorem normF_value {y : Fin 2048 → Fin 1024 → EReal}
    (hy : ∀ r c, (V (Proc.devRef .tc main_v136) (ix3 r 0 c) : EReal) = y r c) (r : Fin 2048) (c : Fin 1024) :
    (after normG (after normF V) (Proc.devRef .tc main_v154) (ix3 r 0 c) : EReal) = layerNorm (y r) (paramsOf V).g2 (paramsOf V).o2 c := by
  simp only [normF, normG, List.cons_append, List.nil_append, TRef.nullary, TRef.unary, TRef.binary, TRef.ternary, TRef.quaternary, TRef.toBuf, TRef.ofBuf, cast_eq]
  after_results_simp
  pointwise
  rw [cN_sub_zero, if_pos cN_pos]
  simp only [hy]
  rfl

/-- The projection into the codebook's space. -/
theorem distances_f {y : Fin 2048 → Fin 1024 → EReal}
    (hy : ∀ r c, (V (Proc.devRef .tc main_v58) (ix3 r 0 c) : EReal) = y r c) (r : Fin 2048) (p : Fin 256) :
    (after distances V (Proc.devRef .tc main_v61) (ix2 r p) : EReal) = Cert.Proof.project (y r) (paramsOf V).Wtovq p := by
  simp only [distances, List.cons_append, List.nil_append, TRef.nullary, TRef.unary, TRef.binary, TRef.ternary, TRef.quaternary, TRef.toBuf, TRef.ofBuf, cast_eq]
  after_results_simp
  pointwise
  simp only [hy]
  rfl

/-- The squared distances. -/
theorem distances_d {y : Fin 2048 → Fin 1024 → EReal}
    (hy : ∀ r c, (V (Proc.devRef .tc main_v58) (ix3 r 0 c) : EReal) = y r c) (r : Fin 2048) (k : Fin 128) :
    (after distances V (Proc.devRef .tc main_v75) (ix2 r k) : EReal) = dist (Cert.Proof.project (y r) (paramsOf V).Wtovq) (paramsOf V).cb k := by
  simp only [distances, List.cons_append, List.nil_append, TRef.nullary, TRef.unary, TRef.binary, TRef.ternary, TRef.quaternary, TRef.toBuf, TRef.ofBuf, cast_eq]
  after_results_simp
  pointwise
  simp only [hy]
  rfl

/-- The straight-through value. -/
theorem loss_through {f q : Fin 2048 → Fin 256 → EReal}
    (hf : ∀ r p, (V (Proc.devRef .tc main_v61) (ix2 r p) : EReal) = f r p) (hq : ∀ r p, (V (Proc.devRef .tc main_v83) (ix2 r p) : EReal) = q r p) (r : Fin 2048) (p : Fin 256) :
    (after loss V (Proc.devRef .tc main_v85) (ix2 r p) : EReal) = f r p + (q r p - f r p) := by
  simp only [loss, List.cons_append, List.nil_append, TRef.nullary, TRef.unary, TRef.binary, TRef.ternary, TRef.quaternary, TRef.toBuf, TRef.ofBuf, cast_eq]
  after_results_simp
  pointwise
  simp only [hf, hq]

/-- The commitment loss. -/
theorem loss_value {f q : Fin 2048 → Fin 256 → EReal}
    (hf : ∀ r p, (V (Proc.devRef .tc main_v61) (ix2 r p) : EReal) = f r p) (hq : ∀ r p, (V (Proc.devRef .tc main_v83) (ix2 r p) : EReal) = q r p)  :
    (after loss V (Proc.devRef .tc main_v98) ix0 : EReal) = Ideal.div (∑ r, tokenLoss (q r) (f r) * (paramsOf V).m r) (max (∑ r, (paramsOf V).m r) cOne) := by
  simp only [loss, List.cons_append, List.nil_append, TRef.nullary, TRef.unary, TRef.binary, TRef.ternary, TRef.quaternary, TRef.toBuf, TRef.ofBuf, cast_eq]
  after_results_simp
  pointwise
  simp only [hf, hq]
  rfl

/-- The mask as a number. -/
theorem loss_mask  (r : Fin 2048) :
    (after loss V (Proc.devRef .tc main_v87) (ix1 r) : EReal) = (paramsOf V).m r := by
  simp only [loss, List.cons_append, List.nil_append, TRef.nullary, TRef.unary, TRef.binary, TRef.ternary, TRef.quaternary, TRef.toBuf, TRef.ofBuf, cast_eq]
  after_results_simp
  pointwise
  rfl

/-- The mask along the columns. -/
theorem maskCol_value {m : Fin 2048 → EReal} (hm : ∀ r, (V (Proc.devRef .tc main_v87) (ix1 r) : EReal) = m r) (r : Fin 2048) (p : Fin 256) :
    (after maskCol V (Proc.devRef .tc main_v100) (ix2 r p) : EReal) = m r := by
  simp only [maskCol, List.cons_append, List.nil_append, TRef.nullary, TRef.unary, TRef.binary, TRef.ternary, TRef.quaternary, TRef.toBuf, TRef.ofBuf, cast_eq]
  after_results_simp
  pointwise
  exact hm r

/-- The masked code brought back, added to the row. -/
theorem embed_value {y : Fin 2048 → Fin 1024 → EReal} {s : Fin 2048 → Fin 256 → EReal} {m : Fin 2048 → EReal}
    (hy : ∀ r c, (V (Proc.devRef .tc main_v58) (ix3 r 0 c) : EReal) = y r c) (hs : ∀ r p, (V (Proc.devRef .tc main_v85) (ix2 r p) : EReal) = s r p)
    (hm : ∀ r p, (V (Proc.devRef .tc main_v100) (ix2 r p) : EReal) = m r) (r : Fin 2048) (c : Fin 1024) :
    (after embed V (Proc.devRef .tc main_v105) (ix3 r 0 c) : EReal) = Cert.Proof.embed (y r) (s r) (m r) (paramsOf V).Wtoemb c := by
  simp only [embed, List.cons_append, List.nil_append, TRef.nullary, TRef.unary, TRef.binary, TRef.ternary, TRef.quaternary, TRef.toBuf, TRef.ofBuf, cast_eq]
  after_results_simp
  pointwise
  simp only [hy, hs, hm]
  rfl

/-- The masked choice of rows. -/
theorem pick_value {y z : Fin 2048 → Fin 1024 → EReal}
    (hy : ∀ r c, (V (Proc.devRef .tc main_v58) (ix3 r 0 c) : EReal) = y r c) (hz : ∀ r c, (V (Proc.devRef .tc main_v123) (ix3 r 0 c) : EReal) = z r c) (r : Fin 2048) (c : Fin 1024) :
    (after pick V (Proc.devRef .tc main_v126) (ix3 r 0 c) : EReal) = Scalar.select ((paramsOf V).mask r) (z r c) (y r c) := by
  simp only [pick, List.cons_append, List.nil_append, TRef.nullary, TRef.unary, TRef.binary, TRef.ternary, TRef.quaternary, TRef.toBuf, TRef.ofBuf, cast_eq]
  after_results_simp
  pointwise
  simp only [hy, hz]
  rfl

/-- The feed-forward network with its residual. -/
theorem ffn_value {y : Fin 2048 → Fin 1024 → EReal}
    (hy : ∀ r c, (V (Proc.devRef .tc main_v126) (ix3 r 0 c) : EReal) = y r c) (r : Fin 2048) (c : Fin 1024) :
    (after ffn V (Proc.devRef .tc main_v136) (ix3 r 0 c) : EReal) = ffnRow (y r) (paramsOf V).W1 (paramsOf V).b1 (paramsOf V).W2 (paramsOf V).b2 c := by
  simp only [ffn, List.cons_append, List.nil_append, TRef.nullary, TRef.unary, TRef.binary, TRef.ternary, TRef.quaternary, TRef.toBuf, TRef.ofBuf, cast_eq]
  after_results_simp
  pointwise
  simp only [hy]
  rfl

end Cert.Reference
-- ==== Proof.Reference.Nearest.lean ====
/- The reference's argument-minimum and gather: the row of the codebook at the nearest code. -/
module

public import proofs.«01_k».proof.Proof.Reference.Program
public import proofs.«01_k».proof.Proof.Layer
public import Idealize.ShloMosaic.Lib.Pointwise
public import Idealize.ShloMosaic.Lib.Claim
public import Idealize.ShloMosaic.Lib.ValueIdx
public import Idealize.ShloMosaic.Lib.Tactic.CleanTypes
public import Idealize.ShloMosaic.PureOps.Ideal.Laws
public import proofs.«01_k».proof.Proof.Nearest
public import Idealize.ShloMosaic.Lib.Routing.Ops

@[expose] public section

set_option maxRecDepth 16384

noncomputable section

namespace Cert.Reference

open Cert.ReferenceIdeal Cert.ReferenceIdeal.Gen Idealize.ShloMosaic Idealize.ShloMosaic.TcCoe Idealize.SL.Sem Idealize.ShloMosaic.StableHlo Cert.Proof

variable (V : Valuation τ sig (Elt Ideal))

/-- The order of the reference's argument-minimum: it keeps one of its two pairs, one that comes before the other. -/
theorem reducer_before (a b : EReal × BitVec 32) :
    (reducer_argmin_f32_i32 (F := Ideal) a b = a ∧ Before a b) ∨ (reducer_argmin_f32_i32 (F := Ideal) a b = b ∧ Before b a) := by
  obtain ⟨a1, a2⟩ := a
  obtain ⟨b1, b2⟩ := b
  have hne : FloatOps.cmpf (F := Ideal) (φ := .f32) .une a1 a1 = 0#1 := by simp [Ideal.cmpf_def, Ideal.cmp]
  unfold reducer_argmin_f32_i32 Before
  simp only [hne]
  rcases lt_trichotomy a1 b1 with h | h | h
  · left
    have h1 : FloatOps.cmpf (F := Ideal) (φ := .f32) .olt a1 b1 = 1#1 := by simp [Ideal.cmpf_def, Ideal.cmp, h]
    rw [h1]
    constructor
    · have : ∀ x : BitVec 1, IntOp.ori (IntOp.ori 1#1 0#1) x = 1#1 := by decide
      rw [this]; rfl
    · exact Or.inl h
  · subst h
    have h1 : FloatOps.cmpf (F := Ideal) (φ := .f32) .olt a1 a1 = 0#1 := by simp [Ideal.cmpf_def, Ideal.cmp]
    have h2 : FloatOps.cmpf (F := Ideal) (φ := .f32) .oeq a1 a1 = 1#1 := by simp [Ideal.cmpf_def, Ideal.cmp]
    rw [h1, h2]
    by_cases h3 : a2.toInt < b2.toInt
    · left
      have h4 : IntOp.cmpi .slt a2 b2 = 1#1 := by simp [IntOp.cmpi, BitVec.slt, h3]
      rw [h4]
      exact ⟨rfl, Or.inr ⟨rfl, h3.le⟩⟩
    · right
      have h4 : IntOp.cmpi .slt a2 b2 = 0#1 := by simp [IntOp.cmpi, BitVec.slt, h3]
      rw [h4]
      exact ⟨rfl, Or.inr ⟨rfl, not_lt.1 h3⟩⟩
  · right
    have h1 : FloatOps.cmpf (F := Ideal) (φ := .f32) .olt a1 b1 = 0#1 := by simp [Ideal.cmpf_def, Ideal.cmp, not_lt.2 h.le]
    have h2 : FloatOps.cmpf (F := Ideal) (φ := .f32) .oeq a1 b1 = 0#1 := by simp [Ideal.cmpf_def, Ideal.cmp, h.ne']
    rw [h1, h2]
    constructor
    · have : ∀ x : BitVec 1, IntOp.ori (IntOp.ori 0#1 0#1) (IntOp.andi 0#1 x) = 0#1 := by decide
      rw [this]; rfl
    · exact Or.inl h

/-- The position that the argument-minimum leaves for a row is that of its nearest code. -/
theorem argmin_row (x : S2048x128.Idx → EReal) (r : Fin 2048) :
    (Host.argReduce (F := Ideal) (φ := .f32) reducer_argmin_f32_i32 x (iotaInDim S2048x128 32 1) (constant S_ .f32 2139095040#32) (constantI S_ 32 0#32)
      reducesTo_S2048x128_S2048_d1 h_S_ (ix1 r)).2 = BitVec.ofNat 32 (Cert.Proof.nearest fun k => x (ix2 r k)).val := by
  rw [Ideal.argReduce_eq_reduce2, Host.reduce2_eq_foldl_fiber]
  have hstart : ((constant (F := Ideal) S_ .f32 2139095040#32 (Shape.Idx.first h_S_), constantI S_ 32 0#32 (Shape.Idx.first h_S_)) : EReal × BitVec 32) = (⊤, 0#32) :=
    Prod.ext cTop_eq rfl
  have hdrop : ∀ (i : S2048x128.Idx), reducesTo_S2048x128_S2048_d1.drop i = ix1 r ↔ i = ix2 r (i 1) := by
    intro i
    constructor
    · intro h
      have h0 := congrArg Fin.val (congrFun h 0)
      rw [Shape.ReducesTo.drop_apply_val_of_eq reducesTo_S2048x128_S2048_d1 i 0 0] at h0
      funext a
      match a with
      | ⟨0, _⟩ => exact Fin.ext h0
      | ⟨1, _⟩ => rfl
    · intro h
      funext a
      match a with
      | ⟨0, _⟩ =>
        refine Fin.ext ((Shape.ReducesTo.drop_apply_val_of_eq reducesTo_S2048x128_S2048_d1 i 0 0).trans ?_)
        exact congrArg Fin.val (congrFun h 0)
  have h1 : ∀ p ∈ Host.argReduceFiber x (iotaInDim S2048x128 32 1) reducesTo_S2048x128_S2048_d1 (ix1 r), ∃ k : Fin 128, p = (x (ix2 r k), BitVec.ofNat 32 k.val) := by
    intro p hp
    unfold Host.argReduceFiber at hp
    obtain ⟨n, hn, rfl⟩ := List.mem_map.1 hp
    have hn' := (hdrop _).1 (of_decide_eq_true (List.mem_filter.1 hn).2)
    generalize S2048x128.rowMajor.symm n = i at hn'
    refine ⟨i 1, ?_⟩
    rw [hn']
    rfl
  have h2 : ∀ k : Fin 128, (x (ix2 r k), BitVec.ofNat 32 k.val) ∈ Host.argReduceFiber x (iotaInDim S2048x128 32 1) reducesTo_S2048x128_S2048_d1 (ix1 r) := by
    intro k
    unfold Host.argReduceFiber
    refine List.mem_map.2 ⟨S2048x128.rowMajor (ix2 r k), List.mem_filter.2 ⟨List.mem_finRange _, decide_eq_true ?_⟩, ?_⟩
    · rw [Equiv.symm_apply_apply]
      exact (hdrop _).2 rfl
    · rw [Equiv.symm_apply_apply]
      rfl
  generalize Host.argReduceFiber x (iotaInDim S2048x128 32 1) reducesTo_S2048x128_S2048_d1 (ix1 r) = L at h1 h2 ⊢
  have h3 := foldl_nearest (fun k => x (ix2 r k)) _ reducer_before L h1 h2
  rw [← hstart] at h3
  exact h3

/-- The nearest code of each row. -/
theorem nearest_value {d : Fin 2048 → Fin 128 → EReal} (hd : ∀ r k, (V (Proc.devRef .tc main_v75) (ix2 r k) : EReal) = d r k) (r : Fin 2048) (p : Fin 256) :
    (after nearest V (Proc.devRef .tc main_v83) (ix2 r p) : EReal) = V (Proc.devRef .tc main_arg13) (ix2 (Cert.Proof.nearest (d r)) p) := by
  simp only [nearest, List.cons_append, List.nil_append, TRef.nullary, TRef.unary, TRef.binary, TRef.ternary, TRef.quaternary, TRef.toBuf, TRef.ofBuf, cast_eq]
  after_results_simp
  have hrow : (fun k => V (Proc.devRef .tc main_v75) (ix2 r k) : Fin 128 → EReal) = d r := funext fun k => hd r k
  refine Routing.gather_row gather_S128x256_S2048x1_S2048x256_1_0_n_n_0_1_1256 rfl rfl rfl rfl rfl _ _ r p (Cert.Proof.nearest (d r)) ?_ (by norm_num)
  have hmin := argmin_row (V (Proc.devRef .tc main_v75)) r
  have hmin' := hmin.trans (congrArg (fun z => BitVec.ofNat 32 (Cert.Proof.nearest z).val) hrow)
  pointwise
  have hne : ∀ n : Fin 128, Scalar.select (IntOp.cmpi .slt (BitVec.ofNat 32 n.val) 0#32) (IntOp.addi (BitVec.ofNat 32 n.val) 128#32) (BitVec.ofNat 32 n.val) = BitVec.ofNat 32 n.val := by
    decide
  exact (congrArg (fun z : BitVec 32 => Scalar.select (IntOp.cmpi .slt z 0#32) (IntOp.addi z 128#32) z) hmin').trans (hne _)

end Cert.Reference
-- ==== Proof.Reference.Results.lean ====
/- What the reference leaves in its two results: the layer's rows and the commitment loss. -/
module

public import proofs.«01_k».proof.Proof.Reference.Values
public import proofs.«01_k».proof.Proof.Reference.Nearest

@[expose] public section

set_option maxRecDepth 16384

noncomputable section

namespace Cert.Reference

open Cert.ReferenceIdeal Cert.ReferenceIdeal.Gen Idealize.ShloMosaic Idealize.ShloMosaic.TcCoe Idealize.SL.Sem Idealize.ShloMosaic.StableHlo Cert.Proof

variable (V : Valuation τ sig (Elt Ideal))

/-- The reference's argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- Contents that agree on the argument buffers have the same arguments. -/
theorem paramsOf_congr {V V' : Valuation τ sig (Elt Ideal)} (h : ∀ b ∈ argRefs, V' (Proc.devRef .tc b) = V (Proc.devRef .tc b)) : paramsOf V' = paramsOf V := by
  unfold paramsOf
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide), h main_arg20 (by decide), h main_arg21 (by decide), h main_arg22 (by decide)]

/-- Every stage keeps the arguments. -/
theorem heads_params : paramsOf (after heads V) = paramsOf V := paramsOf_congr fun b hb => heads_keep V b (by revert b; decide)
theorem attention_params : paramsOf (after attention V) = paramsOf V := paramsOf_congr fun b hb => attention_keep V b (by revert b; decide)
theorem project_params : paramsOf (after project V) = paramsOf V := paramsOf_congr fun b hb => project_keep V b (by revert b; decide)
theorem normA_params : paramsOf (after normA V) = paramsOf V := paramsOf_congr fun b hb => normA_keep V b (by revert b; decide)
theorem normB_params : paramsOf (after normB V) = paramsOf V := paramsOf_congr fun b hb => normB_keep V b (by revert b; decide)
theorem distances_params : paramsOf (after distances V) = paramsOf V := paramsOf_congr fun b hb => distances_keep V b (by revert b; decide)
theorem nearest_params : paramsOf (after nearest V) = paramsOf V := paramsOf_congr fun b hb => nearest_keep V b (by revert b; decide)
theorem loss_params : paramsOf (after loss V) = paramsOf V := paramsOf_congr fun b hb => loss_keep V b (by revert b; decide)
theorem maskCol_params : paramsOf (after maskCol V) = paramsOf V := paramsOf_congr fun b hb => maskCol_keep V b (by revert b; decide)
theorem embed_params : paramsOf (after embed V) = paramsOf V := paramsOf_congr fun b hb => embed_keep V b (by revert b; decide)
theorem normQ_params : paramsOf (after normQ V) = paramsOf V := paramsOf_congr fun b hb => normQ_keep V b (by revert b; decide)
theorem pick_params : paramsOf (after pick V) = paramsOf V := paramsOf_congr fun b hb => pick_keep V b (by revert b; decide)
theorem ffn_params : paramsOf (after ffn V) = paramsOf V := paramsOf_congr fun b hb => ffn_keep V b (by revert b; decide)
theorem normF_params : paramsOf (after normF V) = paramsOf V := paramsOf_congr fun b hb => normF_keep V b (by revert b; decide)
theorem normG_params : paramsOf (after normG V) = paramsOf V := paramsOf_congr fun b hb => normG_keep V b (by revert b; decide)

/-- A stage keeps what is known at an index of a buffer that it does not write. -/
theorem read_keep {V V' : Valuation τ sig (Elt Ideal)} {b : Ref sig .tc} (h : V' (Proc.devRef .tc b) = V (Proc.devRef .tc b))
    (i : b.ty.shape.Idx) {z : Elt Ideal b.ty.elt} (hz : V (Proc.devRef .tc b) i = z) : V' (Proc.devRef .tc b) i = z := (congrFun h i).trans hz

/-- The reference's results are the layer's. -/
theorem results {P : Params} (p0 : paramsOf V = P) :
    (∀ (r : Fin 2048) (c : Fin 1024), (after program V (Proc.devRef .tc main_v154) (ix3 r 0 c) : EReal) = P.x3 r c)
      ∧ (after program V (Proc.devRef .tc main_v98) ix0 : EReal) = P.loss := by
  rw [after_program]
  have q1 := heads_q V
  have k1 := heads_k V
  have v1 := heads_v V
  have p1 := (heads_params V).trans p0
  rw [p0] at q1 k1 v1
  generalize after heads V = V1 at q1 k1 v1 p1 ⊢
  have a2 := attention_value V1 q1 (fun h d t => k1 h t d) v1
  have p2 := (attention_params V1).trans p1
  generalize after attention V1 = V2 at a2 p2 ⊢
  have y3 := project_value V2 a2
  rw [p2] at y3
  have p3 := (project_params V2).trans p2
  generalize after project V2 = V3 at y3 p3 ⊢
  have x5 : ∀ r c, (after normB (after normA V3) (Proc.devRef .tc main_v58) (ix3 r 0 c) : EReal) = P.x1 r c := by
    have h := normA_value V3 y3
    rw [p3] at h
    exact h
  have p5 := ((normB_params _).trans (normA_params V3)).trans p3
  generalize after normB (after normA V3) = V5 at x5 p5 ⊢
  have f6 : ∀ r p, (after distances V5 (Proc.devRef .tc main_v61) (ix2 r p) : EReal) = P.f r p := by
    have h := distances_f V5 x5
    rw [p5] at h
    exact h
  have d6 : ∀ r k, (after distances V5 (Proc.devRef .tc main_v75) (ix2 r k) : EReal) = dist (P.f r) P.cb k := by
    have h := distances_d V5 x5
    rw [p5] at h
    exact h
  have x6 := fun r c => read_keep (distances_keep V5 main_v58 (by decide)) (ix3 r 0 c) (x5 r c)
  have p6 := (distances_params V5).trans p5
  generalize after distances V5 = V6 at f6 d6 x6 p6 ⊢
  have c7 : ∀ r p, (after nearest V6 (Proc.devRef .tc main_v83) (ix2 r p) : EReal) = P.code r p := by
    intro r p
    refine (nearest_value V6 d6 r p).trans ?_
    rw [← p6]
    rfl
  have f7 := fun r p => read_keep (nearest_keep V6 main_v61 (by decide)) (ix2 r p) (f6 r p)
  have x7 := fun r c => read_keep (nearest_keep V6 main_v58 (by decide)) (ix3 r 0 c) (x6 r c)
  have p7 := (nearest_params V6).trans p6
  generalize after nearest V6 = V7 at c7 f7 x7 p7 ⊢
  have s8 := loss_through V7 f7 c7
  have l8 : (after loss V7 (Proc.devRef .tc main_v98) ix0 : EReal) = P.loss := by
    have h := loss_value V7 f7 c7
    rw [p7] at h
    exact h
  have m8 := loss_mask V7
  rw [p7] at m8
  have x8 := fun r c => read_keep (loss_keep V7 main_v58 (by decide)) (ix3 r 0 c) (x7 r c)
  have p8 := (loss_params V7).trans p7
  generalize after loss V7 = V8 at s8 l8 m8 x8 p8 ⊢
  have m9 := maskCol_value V8 m8
  have s9 := fun r p => read_keep (maskCol_keep V8 main_v85 (by decide)) (ix2 r p) (s8 r p)
  have x9 := fun r c => read_keep (maskCol_keep V8 main_v58 (by decide)) (ix3 r 0 c) (x8 r c)
  have l9 := read_keep (maskCol_keep V8 main_v98 (by decide)) ix0 l8
  have p9 := (maskCol_params V8).trans p8
  generalize after maskCol V8 = V9 at m9 s9 x9 l9 p9 ⊢
  have y10 := embed_value V9 x9 s9 m9
  rw [p9] at y10
  have x10 := fun r c => read_keep (embed_keep V9 main_v58 (by decide)) (ix3 r 0 c) (x9 r c)
  have l10 := read_keep (embed_keep V9 main_v98 (by decide)) ix0 l9
  have p10 := (embed_params V9).trans p9
  generalize after embed V9 = V10 at y10 x10 l10 p10 ⊢
  have y11 := normQ_value V10 y10
  rw [p10] at y11
  have x11 := fun r c => read_keep (normQ_keep V10 main_v58 (by decide)) (ix3 r 0 c) (x10 r c)
  have l11 := read_keep (normQ_keep V10 main_v98 (by decide)) ix0 l10
  have p11 := (normQ_params V10).trans p10
  generalize after normQ V10 = V11 at y11 x11 l11 p11 ⊢
  have y12 : ∀ r c, (after pick V11 (Proc.devRef .tc main_v126) (ix3 r 0 c) : EReal) = P.x2 r c := by
    have h := pick_value V11 x11 y11
    rw [p11] at h
    exact h
  have l12 := read_keep (pick_keep V11 main_v98 (by decide)) ix0 l11
  have p12 := (pick_params V11).trans p11
  generalize after pick V11 = V12 at y12 l12 p12 ⊢
  have y13 := ffn_value V12 y12
  rw [p12] at y13
  have l13 := read_keep (ffn_keep V12 main_v98 (by decide)) ix0 l12
  have p13 := (ffn_params V12).trans p12
  generalize after ffn V12 = V13 at y13 l13 p13 ⊢
  refine ⟨?_, ?_⟩
  · have h := normF_value V13 y13
    rw [p13] at h
    exact h
  · exact read_keep (normG_keep _ main_v98 (by decide)) ix0 (read_keep (normF_keep V13 main_v98 (by decide)) ix0 l13)

/-- The program keeps the arguments. -/
theorem args_keep (b : Ref sig .tc) (hb : b ∈ argRefs) : after program V (Proc.devRef .tc b) = V (Proc.devRef .tc b) := by
  rw [after_program]
  rw [normG_keep _ b (by revert b; decide), normF_keep _ b (by revert b; decide), ffn_keep _ b (by revert b; decide), pick_keep _ b (by revert b; decide), normQ_keep _ b (by revert b; decide), embed_keep _ b (by revert b; decide), maskCol_keep _ b (by revert b; decide), loss_keep _ b (by revert b; decide), nearest_keep _ b (by revert b; decide), distances_keep _ b (by revert b; decide), normB_keep _ b (by revert b; decide), normA_keep _ b (by revert b; decide), project_keep _ b (by revert b; decide), attention_keep _ b (by revert b; decide), heads_keep _ b (by revert b; decide)]

end Cert.Reference
-- ==== Proof.lean ====
/- The certificate: the frames of the three programs, the idealisation, and the equality of the two results. -/
module

public import proofs.«01_k».proof.Defs
public import proofs.«01_k».proof.Proof.Gen.KernelIdeal.Points
public import proofs.«01_k».proof.Proof.Gen.KernelIdeal.Skeleton
public import proofs.«01_k».proof.Proof.Gen.KernelIdeal.Launch
public import proofs.«01_k».proof.Proof.Gen.Kernel.Launch
public import proofs.«01_k».proof.Proof.Gen.ReferenceIdeal
public import proofs.«01_k».proof.Proof.Gen.Pre_finite_inputs
public import proofs.«01_k».proof.Proof.Kernel.Frame
public import proofs.«01_k».proof.Proof.Transfer
public import proofs.«01_k».proof.Proof.Precondition
public import proofs.«01_k».proof.Proof.Reference.Results
public import Idealize.ShloMosaic.Lib.Claim

@[expose] public section

set_option maxRecDepth 16384

noncomputable section

namespace Cert.Proof

open Idealize.ShloMosaic Idealize.ShloMosaic.TcCoe Idealize.SL.Sem

/-- What the launch of the reference finds in an argument is kept to the end. -/
theorem reference_arg (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) (hb : b ∈ Cert.Reference.argRefs) :
    StableHlo.after Cert.Reference.program (StableHlo.launchContents m c) (Proc.devRef .tc b) = m ((c.tc : Thread Cert.ReferenceIdeal.nD Cert.ReferenceIdeal.τ).loc b) :=
  (Cert.Reference.args_keep _ b hb).trans rfl

/-- Every run of the reference ends with its arguments as they were and every counter zero. -/
theorem reference_frame : Cert.quiescent_ReferenceIdeal (hReferenceIdeal := Cert.ReferenceIdeal.Gen.facts) := by
  intro m g _
  refine (θ_run Cert.ReferenceIdeal.defs _ _).mono (fun r h => ⟨fun c => ?_, sem_eq_zero_of_no_sems (by decide) r.2⟩) (Cert.Reference.run (F := Ideal) m g)
  exact ⟨(h c Cert.ReferenceIdeal.main_arg0).trans (reference_arg m c _ (by decide)),
        (h c Cert.ReferenceIdeal.main_arg1).trans (reference_arg m c _ (by decide)),
        (h c Cert.ReferenceIdeal.main_arg2).trans (reference_arg m c _ (by decide)),
        (h c Cert.ReferenceIdeal.main_arg3).trans (reference_arg m c _ (by decide)),
        (h c Cert.ReferenceIdeal.main_arg4).trans (reference_arg m c _ (by decide)),
        (h c Cert.ReferenceIdeal.main_arg5).trans (reference_arg m c _ (by decide)),
        (h c Cert.ReferenceIdeal.main_arg6).trans (reference_arg m c _ (by decide)),
        (h c Cert.ReferenceIdeal.main_arg7).trans (reference_arg m c _ (by decide)),
        (h c Cert.ReferenceIdeal.main_arg8).trans (reference_arg m c _ (by decide)),
        (h c Cert.ReferenceIdeal.main_arg9).trans (reference_arg m c _ (by decide)),
        (h c Cert.ReferenceIdeal.main_arg10).trans (reference_arg m c _ (by decide)),
        (h c Cert.ReferenceIdeal.main_arg11).trans (reference_arg m c _ (by decide)),
        (h c Cert.ReferenceIdeal.main_arg12).trans (reference_arg m c _ (by decide)),
        (h c Cert.ReferenceIdeal.main_arg13).trans (reference_arg m c _ (by decide)),
        (h c Cert.ReferenceIdeal.main_arg14).trans (reference_arg m c _ (by decide)),
        (h c Cert.ReferenceIdeal.main_arg15).trans (reference_arg m c _ (by decide)),
        (h c Cert.ReferenceIdeal.main_arg16).trans (reference_arg m c _ (by decide)),
        (h c Cert.ReferenceIdeal.main_arg17).trans (reference_arg m c _ (by decide)),
        (h c Cert.ReferenceIdeal.main_arg18).trans (reference_arg m c _ (by decide)),
        (h c Cert.ReferenceIdeal.main_arg19).trans (reference_arg m c _ (by decide)),
        (h c Cert.ReferenceIdeal.main_arg20).trans (reference_arg m c _ (by decide)),
        (h c Cert.ReferenceIdeal.main_arg21).trans (reference_arg m c _ (by decide)),
        (h c Cert.ReferenceIdeal.main_arg22).trans (reference_arg m c _ (by decide))⟩

section Equal

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's first result is the kernel's, for the same arguments of which the first are real, -/
theorem rows_eq (hp : (kernelParams m c).Real) (he : Cert.Reference.paramsOf (StableHlo.launchContents m' c) = kernelParams m c) :
    (show (⟨3, ![2048, 1, 1024]⟩ : Shape).Idx → EReal from StableHlo.after Cert.Reference.program (StableHlo.launchContents m' c) (Proc.devRef .tc Cert.ReferenceIdeal.main_v154))
      = (show (⟨3, ![2048, 1, 1024]⟩ : Shape).Idx → EReal from Cert.KernelIdeal.Gen.W8 m g c (Proc.devRef .tc Cert.KernelIdeal.main_v31)) := by
  funext i
  have hi : i = ix3 (i 0) 0 (i 2) := by
    funext a
    match a with
    | ⟨0, _⟩ => rfl
    | ⟨1, _⟩ => exact Subsingleton.elim (α := Fin 1) _ _
    | ⟨2, _⟩ => rfl
  rw [hi]
  refine ((Cert.Reference.results _ he).1 (i 0) (i 2)).trans (Eq.trans ?_ (kernel_rows m g c (i 0) (i 2)).symm)
  rw [Params.x3_eq hp]

/-- and so is its second. -/
theorem losses_eq (hp : (kernelParams m c).Real) (he : Cert.Reference.paramsOf (StableHlo.launchContents m' c) = kernelParams m c) :
    (show (⟨0, ![]⟩ : Shape).Idx → EReal from StableHlo.after Cert.Reference.program (StableHlo.launchContents m' c) (Proc.devRef .tc Cert.ReferenceIdeal.main_v98))
      = (show (⟨0, ![]⟩ : Shape).Idx → EReal from Cert.KernelIdeal.Gen.W8 m g c (Proc.devRef .tc Cert.KernelIdeal.main_v23)) := by
  funext i
  have hi : i = ix0 := funext fun a => a.elim0
  rw [hi]
  refine (Cert.Reference.results _ he).2.trans (Eq.trans ?_ (kernel_loss m g c).symm)
  rw [Params.loss_eq hp]

end Equal

/-- Both programs leave the layer of their common arguments, and the same commitment loss. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Gen.W8 m g c (Proc.devRef .tc Cert.KernelIdeal.main_v31), fun c => Cert.KernelIdeal.Gen.W8 m g c (Proc.devRef .tc Cert.KernelIdeal.main_v23), ?_, ?_⟩
  · refine (θ_run Cert.KernelIdeal.defs _ _).mono (fun r h c => ?_) (Cert.KernelIdeal.Gen.final (F := Ideal) m g)
    exact ⟨h.1 c _ (Cert.KernelIdeal.Gen.mem_uc Cert.KernelIdeal.main_v31 (by decide)), h.1 c _ (Cert.KernelIdeal.Gen.mem_uc Cert.KernelIdeal.main_v23 (by decide)),
        (h.1 c _ (Cert.KernelIdeal.Gen.mem_uc Cert.KernelIdeal.main_arg0 (by decide))).trans (Cert.KernelIdeal.Gen.W8_main_arg0 m g c),
        (h.1 c _ (Cert.KernelIdeal.Gen.mem_uc Cert.KernelIdeal.main_arg1 (by decide))).trans (Cert.KernelIdeal.Gen.W8_main_arg1 m g c),
        (h.1 c _ (Cert.KernelIdeal.Gen.mem_uc Cert.KernelIdeal.main_arg2 (by decide))).trans (Cert.KernelIdeal.Gen.W8_main_arg2 m g c),
        (h.1 c _ (Cert.KernelIdeal.Gen.mem_uc Cert.KernelIdeal.main_arg3 (by decide))).trans (Cert.KernelIdeal.Gen.W8_main_arg3 m g c),
        (h.1 c _ (Cert.KernelIdeal.Gen.mem_uc Cert.KernelIdeal.main_arg4 (by decide))).trans (Cert.KernelIdeal.Gen.W8_main_arg4 m g c),
        (h.1 c _ (Cert.KernelIdeal.Gen.mem_uc Cert.KernelIdeal.main_arg5 (by decide))).trans (Cert.KernelIdeal.Gen.W8_main_arg5 m g c),
        (h.1 c _ (Cert.KernelIdeal.Gen.mem_uc Cert.KernelIdeal.main_arg6 (by decide))).trans (Cert.KernelIdeal.Gen.W8_main_arg6 m g c),
        (h.1 c _ (Cert.KernelIdeal.Gen.mem_uc Cert.KernelIdeal.main_arg7 (by decide))).trans (Cert.KernelIdeal.Gen.W8_main_arg7 m g c),
        (h.1 c _ (Cert.KernelIdeal.Gen.mem_uc Cert.KernelIdeal.main_arg8 (by decide))).trans (Cert.KernelIdeal.Gen.W8_main_arg8 m g c),
        (h.1 c _ (Cert.KernelIdeal.Gen.mem_uc Cert.KernelIdeal.main_arg9 (by decide))).trans (Cert.KernelIdeal.Gen.W8_main_arg9 m g c),
        (h.1 c _ (Cert.KernelIdeal.Gen.mem_uc Cert.KernelIdeal.main_arg10 (by decide))).trans (Cert.KernelIdeal.Gen.W8_main_arg10 m g c),
        (h.1 c _ (Cert.KernelIdeal.Gen.mem_uc Cert.KernelIdeal.main_arg11 (by decide))).trans (Cert.KernelIdeal.Gen.W8_main_arg11 m g c),
        (h.1 c _ (Cert.KernelIdeal.Gen.mem_uc Cert.KernelIdeal.main_arg12 (by decide))).trans (Cert.KernelIdeal.Gen.W8_main_arg12 m g c),
        (h.1 c _ (Cert.KernelIdeal.Gen.mem_uc Cert.KernelIdeal.main_arg13 (by decide))).trans (Cert.KernelIdeal.Gen.W8_main_arg13 m g c),
        (h.1 c _ (Cert.KernelIdeal.Gen.mem_uc Cert.KernelIdeal.main_arg14 (by decide))).trans (Cert.KernelIdeal.Gen.W8_main_arg14 m g c),
        (h.1 c _ (Cert.KernelIdeal.Gen.mem_uc Cert.KernelIdeal.main_arg15 (by decide))).trans (Cert.KernelIdeal.Gen.W8_main_arg15 m g c),
        (h.1 c _ (Cert.KernelIdeal.Gen.mem_uc Cert.KernelIdeal.main_arg16 (by decide))).trans (Cert.KernelIdeal.Gen.W8_main_arg16 m g c),
        (h.1 c _ (Cert.KernelIdeal.Gen.mem_uc Cert.KernelIdeal.main_arg17 (by decide))).trans (Cert.KernelIdeal.Gen.W8_main_arg17 m g c),
        (h.1 c _ (Cert.KernelIdeal.Gen.mem_uc Cert.KernelIdeal.main_arg18 (by decide))).trans (Cert.KernelIdeal.Gen.W8_main_arg18 m g c),
        (h.1 c _ (Cert.KernelIdeal.Gen.mem_uc Cert.KernelIdeal.main_arg19 (by decide))).trans (Cert.KernelIdeal.Gen.W8_main_arg19 m g c),
        (h.1 c _ (Cert.KernelIdeal.Gen.mem_uc Cert.KernelIdeal.main_arg20 (by decide))).trans (Cert.KernelIdeal.Gen.W8_main_arg20 m g c),
        (h.1 c _ (Cert.KernelIdeal.Gen.mem_uc Cert.KernelIdeal.main_arg21 (by decide))).trans (Cert.KernelIdeal.Gen.W8_main_arg21 m g c),
        (h.1 c _ (Cert.KernelIdeal.Gen.mem_uc Cert.KernelIdeal.main_arg22 (by decide))).trans (Cert.KernelIdeal.Gen.W8_main_arg22 m g c)⟩
  · refine (θ_run Cert.ReferenceIdeal.defs _ _).mono (fun r h c => ?_) (Cert.Reference.run (F := Ideal) m' g')
    have he : Cert.Reference.paramsOf (StableHlo.launchContents m' c) = kernelParams m c := by
      obtain ⟨a0, a1, a2, a3, a4, a5, a6, a7, a8, a9, a10, a11, a12, a13, a14, a15, a16, a17, a18, a19, a20, a21, a22⟩ := hagree c
      unfold kernelParams
      rw [← a0, ← a1, ← a2, ← a3, ← a4, ← a5, ← a6, ← a7, ← a8, ← a9, ← a10, ← a11, ← a12, ← a13, ← a14, ← a15, ← a16, ← a17, ← a18, ← a19, ← a20, ← a21, ← a22]
      rfl
    have hp := kernel_real m hpre c
    exact ⟨(h c Cert.ReferenceIdeal.main_v154).trans (rows_eq m g m' c hp he), (h c Cert.ReferenceIdeal.main_v98).trans (losses_eq m g m' c hp he),
        (h c Cert.ReferenceIdeal.main_arg0).trans (reference_arg m' c _ (by decide)),
        (h c Cert.ReferenceIdeal.main_arg1).trans (reference_arg m' c _ (by decide)),
        (h c Cert.ReferenceIdeal.main_arg2).trans (reference_arg m' c _ (by decide)),
        (h c Cert.ReferenceIdeal.main_arg3).trans (reference_arg m' c _ (by decide)),
        (h c Cert.ReferenceIdeal.main_arg4).trans (reference_arg m' c _ (by decide)),
        (h c Cert.ReferenceIdeal.main_arg5).trans (reference_arg m' c _ (by decide)),
        (h c Cert.ReferenceIdeal.main_arg6).trans (reference_arg m' c _ (by decide)),
        (h c Cert.ReferenceIdeal.main_arg7).trans (reference_arg m' c _ (by decide)),
        (h c Cert.ReferenceIdeal.main_arg8).trans (reference_arg m' c _ (by decide)),
        (h c Cert.ReferenceIdeal.main_arg9).trans (reference_arg m' c _ (by decide)),
        (h c Cert.ReferenceIdeal.main_arg10).trans (reference_arg m' c _ (by decide)),
        (h c Cert.ReferenceIdeal.main_arg11).trans (reference_arg m' c _ (by decide)),
        (h c Cert.ReferenceIdeal.main_arg12).trans (reference_arg m' c _ (by decide)),
        (h c Cert.ReferenceIdeal.main_arg13).trans (reference_arg m' c _ (by decide)),
        (h c Cert.ReferenceIdeal.main_arg14).trans (reference_arg m' c _ (by decide)),
        (h c Cert.ReferenceIdeal.main_arg15).trans (reference_arg m' c _ (by decide)),
        (h c Cert.ReferenceIdeal.main_arg16).trans (reference_arg m' c _ (by decide)),
        (h c Cert.ReferenceIdeal.main_arg17).trans (reference_arg m' c _ (by decide)),
        (h c Cert.ReferenceIdeal.main_arg18).trans (reference_arg m' c _ (by decide)),
        (h c Cert.ReferenceIdeal.main_arg19).trans (reference_arg m' c _ (by decide)),
        (h c Cert.ReferenceIdeal.main_arg20).trans (reference_arg m' c _ (by decide)),
        (h c Cert.ReferenceIdeal.main_arg21).trans (reference_arg m' c _ (by decide)),
        (h c Cert.ReferenceIdeal.main_arg22).trans (reference_arg m' c _ (by decide))⟩

/-- Everything claimed. -/
theorem claim : Cert.Claim := ⟨Cert.Kernel.Gen.facts, Cert.KernelIdeal.Gen.facts, Cert.ReferenceIdeal.Gen.facts, Cert.Pre_finite_inputs.Gen.facts,
  kernel_frame, fun m g _ => Cert.KernelIdeal.Gen.frame m g, fun m g _ => Cert.KernelIdeal.Gen.frame m g,
  reference_frame, fun m g _ => reference_frame m g trivial, trivial, algebraic⟩

end Cert.Proof

end
